-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S3x1x256x1024 : Shape := ⟨4, ![3, 1, 256, 1024]⟩
abbrev S4x1 : Shape := ⟨2, ![4, 1]⟩
abbrev S2x4 : Shape := ⟨2, ![2, 4]⟩
abbrev S4 : Shape := ⟨1, ![4]⟩
abbrev S_ : Shape := ⟨0, ![]⟩
abbrev S1x1 : Shape := ⟨2, ![1, 1]⟩
abbrev S1x1x256x1024 : Shape := ⟨4, ![1, 1, 256, 1024]⟩
abbrev S256x1024 : Shape := ⟨2, ![256, 1024]⟩
abbrev S512x1024 : Shape := ⟨2, ![512, 1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S3x1x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v14 : BitVec 1 := Scalar.cmpi .sgt v5 c0_i32
  let v15 : BitVec 32 := Scalar.extui v14
  let c0_i32_4 : BitVec 32 := 0#32
  let v16 : BitVec 1 := Scalar.cmpi .ne v15 c0_i32_4
  v16

def k0_dev1 (d0 : Dev nD) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v129 : BitVec 32 := Scalar.muli v2 c16_i32_78
  let v130 : BitVec 32 := Scalar.addi c0_i32_79 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_76 : BitVec 32 := 1#32
  let v128 : BitVec 32 := Scalar.subi v5 c1_i32_76
  let c4_i32_80 : BitVec 32 := 4#32
  let v131 : BitVec 32 := Scalar.muli v128 c4_i32_80
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v133 : BitVec 32 := Scalar.muli v8 c1_i32_81
  let v134 : BitVec 32 := Scalar.addi v132 v133
  v134.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v17 : BitVec 1 := Scalar.cmpi .slt v5 c3_i32
  let v18 : BitVec 32 := Scalar.extui v17
  let c0_i32_5 : BitVec 32 := 0#32
  let v19 : BitVec 1 := Scalar.cmpi .ne v18 c0_i32_5
  v19

def k0_dev2 (d0 : Dev nD) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v129 : BitVec 32 := Scalar.muli v2 c16_i32_78
  let v130 : BitVec 32 := Scalar.addi c0_i32_79 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_76 : BitVec 32 := 1#32
  let v128 : BitVec 32 := Scalar.addi v5 c1_i32_76
  let c4_i32_80 : BitVec 32 := 4#32
  let v131 : BitVec 32 := Scalar.muli v128 c4_i32_80
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v133 : BitVec 32 := Scalar.muli v8 c1_i32_81
  let v134 : BitVec 32 := Scalar.addi v132 v133
  v134.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_6 : BitVec 32 := 0#32
  let v20 : BitVec 1 := Scalar.cmpi .sgt v8 c0_i32_6
  let v21 : BitVec 32 := Scalar.extui v20
  let c0_i32_7 : BitVec 32 := 0#32
  let v22 : BitVec 1 := Scalar.cmpi .ne v21 c0_i32_7
  v22

def k0_dev3 (d0 : Dev nD) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v129 : BitVec 32 := Scalar.muli v2 c16_i32_78
  let v130 : BitVec 32 := Scalar.addi c0_i32_79 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v131 : BitVec 32 := Scalar.muli v5 c4_i32_80
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v128 : BitVec 32 := Scalar.subi v8 c1_i32_76
  let c1_i32_81 : BitVec 32 := 1#32
  let v133 : BitVec 32 := Scalar.muli v128 c1_i32_81
  let v134 : BitVec 32 := Scalar.addi v132 v133
  v134.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_8 : BitVec 32 := 3#32
  let v23 : BitVec 1 := Scalar.cmpi .slt v8 c3_i32_8
  let v24 : BitVec 32 := Scalar.extui v23
  let c0_i32_9 : BitVec 32 := 0#32
  let v25 : BitVec 1 := Scalar.cmpi .ne v24 c0_i32_9
  v25

def k0_dev4 (d0 : Dev nD) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v129 : BitVec 32 := Scalar.muli v2 c16_i32_78
  let v130 : BitVec 32 := Scalar.addi c0_i32_79 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v131 : BitVec 32 := Scalar.muli v5 c4_i32_80
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v128 : BitVec 32 := Scalar.addi v8 c1_i32_76
  let c1_i32_81 : BitVec 32 := 1#32
  let v133 : BitVec 32 := Scalar.muli v128 c1_i32_81
  let v134 : BitVec 32 := Scalar.addi v132 v133
  v134.toNat
def k0_dev5 (d0 : Dev nD) : Nat :=
  let c0_i32_12 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_11 : BitVec 32 := 16#32
  let v26 : BitVec 32 := Scalar.muli v12 c16_i32_11
  let v27 : BitVec 32 := Scalar.addi c0_i32_12 v26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v28 : BitVec 32 := Scalar.muli v5 c4_i32_13
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v30 : BitVec 32 := Scalar.muli v8 c1_i32_14
  let v31 : BitVec 32 := Scalar.addi v29 v30
  v31.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v66 : BitVec 1 := Scalar.cmpi .eq v5 c0_i32_31
  let v67 : BitVec 32 := Scalar.extui v66
  let c0_i32_32 : BitVec 32 := 0#32
  let v68 : BitVec 1 := Scalar.cmpi .ne v67 c0_i32_32
  v68

def k0_off1 (d0 : Dev nD) (c256_i32 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let v128 : BitVec 32 := Scalar.addi v11 c256_i32
  let c0_i32_89 : BitVec 32 := 0#32
  ![v128.toNat, 0]
def k0_dev6 (d0 : Dev nD) : Nat :=
  let c0_i32_84 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_83 : BitVec 32 := 16#32
  let v129 : BitVec 32 := Scalar.muli v2 c16_i32_83
  let v130 : BitVec 32 := Scalar.addi c0_i32_84 v129
  let c1_i32_82 : BitVec 32 := 1#32
  let c4_i32_85 : BitVec 32 := 4#32
  let v131 : BitVec 32 := Scalar.muli c1_i32_82 c4_i32_85
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v133 : BitVec 32 := Scalar.muli v8 c1_i32_86
  let v134 : BitVec 32 := Scalar.addi v132 v133
  v134.toNat
def k0_dev7 (d0 : Dev nD) : Nat :=
  let c0_i32_99 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_98 : BitVec 32 := 16#32
  let v143 : BitVec 32 := Scalar.muli v2 c16_i32_98
  let v144 : BitVec 32 := Scalar.addi c0_i32_99 v143
  let c1_i32_97 : BitVec 32 := 1#32
  let c4_i32_100 : BitVec 32 := 4#32
  let v145 : BitVec 32 := Scalar.muli c1_i32_97 c4_i32_100
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v147 : BitVec 32 := Scalar.muli v8 c1_i32_101
  let v148 : BitVec 32 := Scalar.addi v146 v147
  v148.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v69 : BitVec 1 := Scalar.cmpi .eq v5 c1_i32_33
  let v70 : BitVec 32 := Scalar.extui v69
  let c0_i32_34 : BitVec 32 := 0#32
  let v71 : BitVec 1 := Scalar.cmpi .ne v70 c0_i32_34
  v71

def k0_off2 (d0 : Dev nD) (c256_i32 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let v140 : BitVec 32 := Scalar.addi v11 c256_i32
  let v141 : Index := Scalar.indexCast v140
  let c0 : Index := 0#32
  ![v141.toNat, 0]
def k0_off3 (d0 : Dev nD) (c256_i32_97 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let v150 : BitVec 32 := Scalar.addi v11 c256_i32_97
  let c0_i32_111 : BitVec 32 := 0#32
  ![v150.toNat, 0]
def k0_dev8 (d0 : Dev nD) : Nat :=
  let c0_i32_106 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_105 : BitVec 32 := 16#32
  let v151 : BitVec 32 := Scalar.muli v2 c16_i32_105
  let v152 : BitVec 32 := Scalar.addi c0_i32_106 v151
  let c2_i32_104 : BitVec 32 := 2#32
  let c4_i32_107 : BitVec 32 := 4#32
  let v153 : BitVec 32 := Scalar.muli c2_i32_104 c4_i32_107
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v155 : BitVec 32 := Scalar.muli v8 c1_i32_108
  let v156 : BitVec 32 := Scalar.addi v154 v155
  v156.toNat
def k0_dev9 (d0 : Dev nD) : Nat :=
  let c0_i32_163 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_162 : BitVec 32 := 16#32
  let v203 : BitVec 32 := Scalar.muli v2 c16_i32_162
  let v204 : BitVec 32 := Scalar.addi c0_i32_163 v203
  let c0_i32_161 : BitVec 32 := 0#32
  let c4_i32_164 : BitVec 32 := 4#32
  let v205 : BitVec 32 := Scalar.muli c0_i32_161 c4_i32_164
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v207 : BitVec 32 := Scalar.muli v8 c1_i32_165
  let v208 : BitVec 32 := Scalar.addi v206 v207
  v208.toNat
def k0_dev10 (d0 : Dev nD) : Nat :=
  let c0_i32_176 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_175 : BitVec 32 := 16#32
  let v217 : BitVec 32 := Scalar.muli v2 c16_i32_175
  let v218 : BitVec 32 := Scalar.addi c0_i32_176 v217
  let c2_i32_174 : BitVec 32 := 2#32
  let c4_i32_177 : BitVec 32 := 4#32
  let v219 : BitVec 32 := Scalar.muli c2_i32_174 c4_i32_177
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v221 : BitVec 32 := Scalar.muli v8 c1_i32_178
  let v222 : BitVec 32 := Scalar.addi v220 v221
  v222.toNat
def k0_dev11 (d0 : Dev nD) : Nat :=
  let c0_i32_200 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_199 : BitVec 32 := 16#32
  let v242 : BitVec 32 := Scalar.muli v2 c16_i32_199
  let v243 : BitVec 32 := Scalar.addi c0_i32_200 v242
  let c0_i32_198 : BitVec 32 := 0#32
  let c4_i32_201 : BitVec 32 := 4#32
  let v244 : BitVec 32 := Scalar.muli c0_i32_198 c4_i32_201
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v246 : BitVec 32 := Scalar.muli v8 c1_i32_202
  let v247 : BitVec 32 := Scalar.addi v245 v246
  v247.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_35 : BitVec 32 := 2#32
  let v72 : BitVec 1 := Scalar.cmpi .eq v5 c2_i32_35
  let v73 : BitVec 32 := Scalar.extui v72
  let c0_i32_36 : BitVec 32 := 0#32
  let v74 : BitVec 1 := Scalar.cmpi .ne v73 c0_i32_36
  v74

def k0_off4 (d0 : Dev nD) (c0_i32_92 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let v140 : BitVec 32 := Scalar.addi v11 c0_i32_92
  let v141 : Index := Scalar.indexCast v140
  let c0 : Index := 0#32
  ![v141.toNat, 0]
def k0_off5 (d0 : Dev nD) (c0_i32_98 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let v150 : BitVec 32 := Scalar.addi v11 c0_i32_98
  let c0_i32_112 : BitVec 32 := 0#32
  ![v150.toNat, 0]
def k0_dev12 (d0 : Dev nD) : Nat :=
  let c0_i32_107 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_106 : BitVec 32 := 16#32
  let v151 : BitVec 32 := Scalar.muli v2 c16_i32_106
  let v152 : BitVec 32 := Scalar.addi c0_i32_107 v151
  let c1_i32_105 : BitVec 32 := 1#32
  let c4_i32_108 : BitVec 32 := 4#32
  let v153 : BitVec 32 := Scalar.muli c1_i32_105 c4_i32_108
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v155 : BitVec 32 := Scalar.muli v8 c1_i32_109
  let v156 : BitVec 32 := Scalar.addi v154 v155
  v156.toNat
def k0_dev13 (d0 : Dev nD) : Nat :=
  let c0_i32_163 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_162 : BitVec 32 := 16#32
  let v203 : BitVec 32 := Scalar.muli v2 c16_i32_162
  let v204 : BitVec 32 := Scalar.addi c0_i32_163 v203
  let c3_i32_161 : BitVec 32 := 3#32
  let c4_i32_164 : BitVec 32 := 4#32
  let v205 : BitVec 32 := Scalar.muli c3_i32_161 c4_i32_164
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v207 : BitVec 32 := Scalar.muli v8 c1_i32_165
  let v208 : BitVec 32 := Scalar.addi v206 v207
  v208.toNat
def k0_dev14 (d0 : Dev nD) : Nat :=
  let c0_i32_176 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_175 : BitVec 32 := 16#32
  let v217 : BitVec 32 := Scalar.muli v2 c16_i32_175
  let v218 : BitVec 32 := Scalar.addi c0_i32_176 v217
  let c1_i32_174 : BitVec 32 := 1#32
  let c4_i32_177 : BitVec 32 := 4#32
  let v219 : BitVec 32 := Scalar.muli c1_i32_174 c4_i32_177
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v221 : BitVec 32 := Scalar.muli v8 c1_i32_178
  let v222 : BitVec 32 := Scalar.addi v220 v221
  v222.toNat
def k0_dev15 (d0 : Dev nD) : Nat :=
  let c0_i32_200 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_199 : BitVec 32 := 16#32
  let v242 : BitVec 32 := Scalar.muli v2 c16_i32_199
  let v243 : BitVec 32 := Scalar.addi c0_i32_200 v242
  let c3_i32_198 : BitVec 32 := 3#32
  let c4_i32_201 : BitVec 32 := 4#32
  let v244 : BitVec 32 := Scalar.muli c3_i32_198 c4_i32_201
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v246 : BitVec 32 := Scalar.muli v8 c1_i32_202
  let v247 : BitVec 32 := Scalar.addi v245 v246
  v247.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_37 : BitVec 32 := 3#32
  let v75 : BitVec 1 := Scalar.cmpi .eq v5 c3_i32_37
  let v76 : BitVec 32 := Scalar.extui v75
  let c0_i32_38 : BitVec 32 := 0#32
  let v77 : BitVec 1 := Scalar.cmpi .ne v76 c0_i32_38
  v77

def k0_off6 (d0 : Dev nD) (c0_i32_76 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let v128 : BitVec 32 := Scalar.addi v11 c0_i32_76
  let c0_i32_90 : BitVec 32 := 0#32
  ![v128.toNat, 0]
def k0_dev16 (d0 : Dev nD) : Nat :=
  let c0_i32_85 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_84 : BitVec 32 := 16#32
  let v129 : BitVec 32 := Scalar.muli v2 c16_i32_84
  let v130 : BitVec 32 := Scalar.addi c0_i32_85 v129
  let c2_i32_83 : BitVec 32 := 2#32
  let c4_i32_86 : BitVec 32 := 4#32
  let v131 : BitVec 32 := Scalar.muli c2_i32_83 c4_i32_86
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v133 : BitVec 32 := Scalar.muli v8 c1_i32_87
  let v134 : BitVec 32 := Scalar.addi v132 v133
  v134.toNat
def k0_dev17 (d0 : Dev nD) : Nat :=
  let c0_i32_99 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_98 : BitVec 32 := 16#32
  let v143 : BitVec 32 := Scalar.muli v2 c16_i32_98
  let v144 : BitVec 32 := Scalar.addi c0_i32_99 v143
  let c2_i32_97 : BitVec 32 := 2#32
  let c4_i32_100 : BitVec 32 := 4#32
  let v145 : BitVec 32 := Scalar.muli c2_i32_97 c4_i32_100
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v147 : BitVec 32 := Scalar.muli v8 c1_i32_101
  let v148 : BitVec 32 := Scalar.addi v146 v147
  v148.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_39 : BitVec 32 := 0#32
  let v78 : BitVec 1 := Scalar.cmpi .eq v8 c0_i32_39
  let v79 : BitVec 32 := Scalar.extui v78
  let c0_i32_40 : BitVec 32 := 0#32
  let v80 : BitVec 1 := Scalar.cmpi .ne v79 c0_i32_40
  v80

def k0_off7 (d0 : Dev nD) (c0_i32_80 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_79 : BitVec 32 := 4#32
  let v131 : BitVec 32 := Scalar.muli v2 c4_i32_79
  let v132 : BitVec 32 := Scalar.addi v131 c0_i32_80
  let c512_i32_81 : BitVec 32 := 512#32
  let v133 : BitVec 32 := Scalar.muli v132 c512_i32_81
  let c0_i32_91 : BitVec 32 := 0#32
  ![v133.toNat, 0]
def k0_dev18 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v134 : BitVec 32 := Scalar.muli v2 c16_i32_87
  let v135 : BitVec 32 := Scalar.addi c0_i32_88 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v136 : BitVec 32 := Scalar.muli v5 c4_i32_89
  let v137 : BitVec 32 := Scalar.addi v135 v136
  let c1_i32_86 : BitVec 32 := 1#32
  let c1_i32_90 : BitVec 32 := 1#32
  let v138 : BitVec 32 := Scalar.muli c1_i32_86 c1_i32_90
  let v139 : BitVec 32 := Scalar.addi v137 v138
  v139.toNat
def k0_dev19 (d0 : Dev nD) : Nat :=
  let c0_i32_102 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_101 : BitVec 32 := 16#32
  let v152 : BitVec 32 := Scalar.muli v12 c16_i32_101
  let v153 : BitVec 32 := Scalar.addi c0_i32_102 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v154 : BitVec 32 := Scalar.muli v5 c4_i32_103
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v156 : BitVec 32 := Scalar.muli v8 c1_i32_104
  let v157 : BitVec 32 := Scalar.addi v155 v156
  v157.toNat
def k0_dev20 (d0 : Dev nD) : Nat :=
  let c0_i32_129 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_128 : BitVec 32 := 16#32
  let v183 : BitVec 32 := Scalar.muli v12 c16_i32_128
  let v184 : BitVec 32 := Scalar.addi c0_i32_129 v183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v185 : BitVec 32 := Scalar.muli v5 c4_i32_130
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v187 : BitVec 32 := Scalar.muli v8 c1_i32_131
  let v188 : BitVec 32 := Scalar.addi v186 v187
  v188.toNat
def k0_dev21 (d0 : Dev nD) : Nat :=
  let c0_i32_156 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_155 : BitVec 32 := 16#32
  let v214 : BitVec 32 := Scalar.muli v12 c16_i32_155
  let v215 : BitVec 32 := Scalar.addi c0_i32_156 v214
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_157 : BitVec 32 := 4#32
  let v216 : BitVec 32 := Scalar.muli v5 c4_i32_157
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v218 : BitVec 32 := Scalar.muli v8 c1_i32_158
  let v219 : BitVec 32 := Scalar.addi v217 v218
  v219.toNat
def k0_dev22 (d0 : Dev nD) : Nat :=
  let c0_i32_183 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_182 : BitVec 32 := 16#32
  let v245 : BitVec 32 := Scalar.muli v12 c16_i32_182
  let v246 : BitVec 32 := Scalar.addi c0_i32_183 v245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v247 : BitVec 32 := Scalar.muli v5 c4_i32_184
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v249 : BitVec 32 := Scalar.muli v8 c1_i32_185
  let v250 : BitVec 32 := Scalar.addi v248 v249
  v250.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v81 : BitVec 1 := Scalar.cmpi .eq v8 c1_i32_41
  let v82 : BitVec 32 := Scalar.extui v81
  let c0_i32_42 : BitVec 32 := 0#32
  let v83 : BitVec 1 := Scalar.cmpi .ne v82 c0_i32_42
  v83

def k0_off8 (d0 : Dev nD) (c1_i32_80 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_79 : BitVec 32 := 4#32
  let v131 : BitVec 32 := Scalar.muli v2 c4_i32_79
  let v132 : BitVec 32 := Scalar.addi v131 c1_i32_80
  let c512_i32_81 : BitVec 32 := 512#32
  let v133 : BitVec 32 := Scalar.muli v132 c512_i32_81
  let c0_i32_91 : BitVec 32 := 0#32
  ![v133.toNat, 0]
def k0_dev23 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v134 : BitVec 32 := Scalar.muli v2 c16_i32_87
  let v135 : BitVec 32 := Scalar.addi c0_i32_88 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v136 : BitVec 32 := Scalar.muli v5 c4_i32_89
  let v137 : BitVec 32 := Scalar.addi v135 v136
  let c2_i32_86 : BitVec 32 := 2#32
  let c1_i32_90 : BitVec 32 := 1#32
  let v138 : BitVec 32 := Scalar.muli c2_i32_86 c1_i32_90
  let v139 : BitVec 32 := Scalar.addi v137 v138
  v139.toNat
def k0_dev24 (d0 : Dev nD) : Nat :=
  let c0_i32_105 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_104 : BitVec 32 := 16#32
  let v152 : BitVec 32 := Scalar.muli v2 c16_i32_104
  let v153 : BitVec 32 := Scalar.addi c0_i32_105 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_106 : BitVec 32 := 4#32
  let v154 : BitVec 32 := Scalar.muli v5 c4_i32_106
  let v155 : BitVec 32 := Scalar.addi v153 v154
  let c0_i32_103 : BitVec 32 := 0#32
  let c1_i32_107 : BitVec 32 := 1#32
  let v156 : BitVec 32 := Scalar.muli c0_i32_103 c1_i32_107
  let v157 : BitVec 32 := Scalar.addi v155 v156
  v157.toNat
def k0_dev25 (d0 : Dev nD) : Nat :=
  let c0_i32_119 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_118 : BitVec 32 := 16#32
  let v170 : BitVec 32 := Scalar.muli v12 c16_i32_118
  let v171 : BitVec 32 := Scalar.addi c0_i32_119 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_120 : BitVec 32 := 4#32
  let v172 : BitVec 32 := Scalar.muli v5 c4_i32_120
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v174 : BitVec 32 := Scalar.muli v8 c1_i32_121
  let v175 : BitVec 32 := Scalar.addi v173 v174
  v175.toNat
def k0_dev26 (d0 : Dev nD) : Nat :=
  let c0_i32_149 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_148 : BitVec 32 := 16#32
  let v201 : BitVec 32 := Scalar.muli v2 c16_i32_148
  let v202 : BitVec 32 := Scalar.addi c0_i32_149 v201
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_150 : BitVec 32 := 4#32
  let v203 : BitVec 32 := Scalar.muli v5 c4_i32_150
  let v204 : BitVec 32 := Scalar.addi v202 v203
  let c2_i32_147 : BitVec 32 := 2#32
  let c1_i32_151 : BitVec 32 := 1#32
  let v205 : BitVec 32 := Scalar.muli c2_i32_147 c1_i32_151
  let v206 : BitVec 32 := Scalar.addi v204 v205
  v206.toNat
def k0_dev27 (d0 : Dev nD) : Nat :=
  let c0_i32_163 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_162 : BitVec 32 := 16#32
  let v219 : BitVec 32 := Scalar.muli v12 c16_i32_162
  let v220 : BitVec 32 := Scalar.addi c0_i32_163 v219
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v221 : BitVec 32 := Scalar.muli v5 c4_i32_164
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v223 : BitVec 32 := Scalar.muli v8 c1_i32_165
  let v224 : BitVec 32 := Scalar.addi v222 v223
  v224.toNat
def k0_dev28 (d0 : Dev nD) : Nat :=
  let c0_i32_193 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_192 : BitVec 32 := 16#32
  let v250 : BitVec 32 := Scalar.muli v2 c16_i32_192
  let v251 : BitVec 32 := Scalar.addi c0_i32_193 v250
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_194 : BitVec 32 := 4#32
  let v252 : BitVec 32 := Scalar.muli v5 c4_i32_194
  let v253 : BitVec 32 := Scalar.addi v251 v252
  let c0_i32_191 : BitVec 32 := 0#32
  let c1_i32_195 : BitVec 32 := 1#32
  let v254 : BitVec 32 := Scalar.muli c0_i32_191 c1_i32_195
  let v255 : BitVec 32 := Scalar.addi v253 v254
  v255.toNat
def k0_dev29 (d0 : Dev nD) : Nat :=
  let c0_i32_207 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_206 : BitVec 32 := 16#32
  let v268 : BitVec 32 := Scalar.muli v12 c16_i32_206
  let v269 : BitVec 32 := Scalar.addi c0_i32_207 v268
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_208 : BitVec 32 := 4#32
  let v270 : BitVec 32 := Scalar.muli v5 c4_i32_208
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_209 : BitVec 32 := 1#32
  let v272 : BitVec 32 := Scalar.muli v8 c1_i32_209
  let v273 : BitVec 32 := Scalar.addi v271 v272
  v273.toNat
def k0_dev30 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v299 : BitVec 32 := Scalar.muli v2 c16_i32_236
  let v300 : BitVec 32 := Scalar.addi c0_i32_237 v299
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v301 : BitVec 32 := Scalar.muli v5 c4_i32_238
  let v302 : BitVec 32 := Scalar.addi v300 v301
  let c0_i32_235 : BitVec 32 := 0#32
  let c1_i32_239 : BitVec 32 := 1#32
  let v303 : BitVec 32 := Scalar.muli c0_i32_235 c1_i32_239
  let v304 : BitVec 32 := Scalar.addi v302 v303
  v304.toNat
def k0_dev31 (d0 : Dev nD) : Nat :=
  let c0_i32_251 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_250 : BitVec 32 := 16#32
  let v317 : BitVec 32 := Scalar.muli v12 c16_i32_250
  let v318 : BitVec 32 := Scalar.addi c0_i32_251 v317
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_252 : BitVec 32 := 4#32
  let v319 : BitVec 32 := Scalar.muli v5 c4_i32_252
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_253 : BitVec 32 := 1#32
  let v321 : BitVec 32 := Scalar.muli v8 c1_i32_253
  let v322 : BitVec 32 := Scalar.addi v320 v321
  v322.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_43 : BitVec 32 := 2#32
  let v84 : BitVec 1 := Scalar.cmpi .eq v8 c2_i32_43
  let v85 : BitVec 32 := Scalar.extui v84
  let c0_i32_44 : BitVec 32 := 0#32
  let v86 : BitVec 1 := Scalar.cmpi .ne v85 c0_i32_44
  v86

def k0_off9 (d0 : Dev nD) (c2_i32_80 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_79 : BitVec 32 := 4#32
  let v131 : BitVec 32 := Scalar.muli v2 c4_i32_79
  let v132 : BitVec 32 := Scalar.addi v131 c2_i32_80
  let c512_i32_81 : BitVec 32 := 512#32
  let v133 : BitVec 32 := Scalar.muli v132 c512_i32_81
  let c0_i32_91 : BitVec 32 := 0#32
  ![v133.toNat, 0]
def k0_dev32 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v134 : BitVec 32 := Scalar.muli v2 c16_i32_87
  let v135 : BitVec 32 := Scalar.addi c0_i32_88 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v136 : BitVec 32 := Scalar.muli v5 c4_i32_89
  let v137 : BitVec 32 := Scalar.addi v135 v136
  let c3_i32_86 : BitVec 32 := 3#32
  let c1_i32_90 : BitVec 32 := 1#32
  let v138 : BitVec 32 := Scalar.muli c3_i32_86 c1_i32_90
  let v139 : BitVec 32 := Scalar.addi v137 v138
  v139.toNat
def k0_dev33 (d0 : Dev nD) : Nat :=
  let c0_i32_105 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_104 : BitVec 32 := 16#32
  let v152 : BitVec 32 := Scalar.muli v2 c16_i32_104
  let v153 : BitVec 32 := Scalar.addi c0_i32_105 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_106 : BitVec 32 := 4#32
  let v154 : BitVec 32 := Scalar.muli v5 c4_i32_106
  let v155 : BitVec 32 := Scalar.addi v153 v154
  let c1_i32_103 : BitVec 32 := 1#32
  let c1_i32_107 : BitVec 32 := 1#32
  let v156 : BitVec 32 := Scalar.muli c1_i32_103 c1_i32_107
  let v157 : BitVec 32 := Scalar.addi v155 v156
  v157.toNat
def k0_dev34 (d0 : Dev nD) : Nat :=
  let c0_i32_119 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_118 : BitVec 32 := 16#32
  let v170 : BitVec 32 := Scalar.muli v12 c16_i32_118
  let v171 : BitVec 32 := Scalar.addi c0_i32_119 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_120 : BitVec 32 := 4#32
  let v172 : BitVec 32 := Scalar.muli v5 c4_i32_120
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v174 : BitVec 32 := Scalar.muli v8 c1_i32_121
  let v175 : BitVec 32 := Scalar.addi v173 v174
  v175.toNat
def k0_dev35 (d0 : Dev nD) : Nat :=
  let c0_i32_149 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_148 : BitVec 32 := 16#32
  let v201 : BitVec 32 := Scalar.muli v2 c16_i32_148
  let v202 : BitVec 32 := Scalar.addi c0_i32_149 v201
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_150 : BitVec 32 := 4#32
  let v203 : BitVec 32 := Scalar.muli v5 c4_i32_150
  let v204 : BitVec 32 := Scalar.addi v202 v203
  let c3_i32_147 : BitVec 32 := 3#32
  let c1_i32_151 : BitVec 32 := 1#32
  let v205 : BitVec 32 := Scalar.muli c3_i32_147 c1_i32_151
  let v206 : BitVec 32 := Scalar.addi v204 v205
  v206.toNat
def k0_dev36 (d0 : Dev nD) : Nat :=
  let c0_i32_163 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_162 : BitVec 32 := 16#32
  let v219 : BitVec 32 := Scalar.muli v12 c16_i32_162
  let v220 : BitVec 32 := Scalar.addi c0_i32_163 v219
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v221 : BitVec 32 := Scalar.muli v5 c4_i32_164
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v223 : BitVec 32 := Scalar.muli v8 c1_i32_165
  let v224 : BitVec 32 := Scalar.addi v222 v223
  v224.toNat
def k0_dev37 (d0 : Dev nD) : Nat :=
  let c0_i32_193 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_192 : BitVec 32 := 16#32
  let v250 : BitVec 32 := Scalar.muli v2 c16_i32_192
  let v251 : BitVec 32 := Scalar.addi c0_i32_193 v250
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_194 : BitVec 32 := 4#32
  let v252 : BitVec 32 := Scalar.muli v5 c4_i32_194
  let v253 : BitVec 32 := Scalar.addi v251 v252
  let c3_i32_191 : BitVec 32 := 3#32
  let c1_i32_195 : BitVec 32 := 1#32
  let v254 : BitVec 32 := Scalar.muli c3_i32_191 c1_i32_195
  let v255 : BitVec 32 := Scalar.addi v253 v254
  v255.toNat
def k0_dev38 (d0 : Dev nD) : Nat :=
  let c0_i32_207 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_206 : BitVec 32 := 16#32
  let v268 : BitVec 32 := Scalar.muli v12 c16_i32_206
  let v269 : BitVec 32 := Scalar.addi c0_i32_207 v268
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_208 : BitVec 32 := 4#32
  let v270 : BitVec 32 := Scalar.muli v5 c4_i32_208
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_209 : BitVec 32 := 1#32
  let v272 : BitVec 32 := Scalar.muli v8 c1_i32_209
  let v273 : BitVec 32 := Scalar.addi v271 v272
  v273.toNat
def k0_dev39 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v299 : BitVec 32 := Scalar.muli v2 c16_i32_236
  let v300 : BitVec 32 := Scalar.addi c0_i32_237 v299
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v301 : BitVec 32 := Scalar.muli v5 c4_i32_238
  let v302 : BitVec 32 := Scalar.addi v300 v301
  let c1_i32_235 : BitVec 32 := 1#32
  let c1_i32_239 : BitVec 32 := 1#32
  let v303 : BitVec 32 := Scalar.muli c1_i32_235 c1_i32_239
  let v304 : BitVec 32 := Scalar.addi v302 v303
  v304.toNat
def k0_dev40 (d0 : Dev nD) : Nat :=
  let c0_i32_251 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_250 : BitVec 32 := 16#32
  let v317 : BitVec 32 := Scalar.muli v12 c16_i32_250
  let v318 : BitVec 32 := Scalar.addi c0_i32_251 v317
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_252 : BitVec 32 := 4#32
  let v319 : BitVec 32 := Scalar.muli v5 c4_i32_252
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_253 : BitVec 32 := 1#32
  let v321 : BitVec 32 := Scalar.muli v8 c1_i32_253
  let v322 : BitVec 32 := Scalar.addi v320 v321
  v322.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_45 : BitVec 32 := 3#32
  let v87 : BitVec 1 := Scalar.cmpi .eq v8 c3_i32_45
  let v88 : BitVec 32 := Scalar.extui v87
  let c0_i32_46 : BitVec 32 := 0#32
  let v89 : BitVec 1 := Scalar.cmpi .ne v88 c0_i32_46
  v89

def k0_off10 (d0 : Dev nD) (c3_i32_80 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_79 : BitVec 32 := 4#32
  let v131 : BitVec 32 := Scalar.muli v2 c4_i32_79
  let v132 : BitVec 32 := Scalar.addi v131 c3_i32_80
  let c512_i32_81 : BitVec 32 := 512#32
  let v133 : BitVec 32 := Scalar.muli v132 c512_i32_81
  let c0_i32_91 : BitVec 32 := 0#32
  ![v133.toNat, 0]
def k0_dev41 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v134 : BitVec 32 := Scalar.muli v2 c16_i32_87
  let v135 : BitVec 32 := Scalar.addi c0_i32_88 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v136 : BitVec 32 := Scalar.muli v5 c4_i32_89
  let v137 : BitVec 32 := Scalar.addi v135 v136
  let c2_i32_86 : BitVec 32 := 2#32
  let c1_i32_90 : BitVec 32 := 1#32
  let v138 : BitVec 32 := Scalar.muli c2_i32_86 c1_i32_90
  let v139 : BitVec 32 := Scalar.addi v137 v138
  v139.toNat
def k0_dev42 (d0 : Dev nD) : Nat :=
  let c0_i32_102 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_101 : BitVec 32 := 16#32
  let v152 : BitVec 32 := Scalar.muli v12 c16_i32_101
  let v153 : BitVec 32 := Scalar.addi c0_i32_102 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v154 : BitVec 32 := Scalar.muli v5 c4_i32_103
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v156 : BitVec 32 := Scalar.muli v8 c1_i32_104
  let v157 : BitVec 32 := Scalar.addi v155 v156
  v157.toNat
def k0_dev43 (d0 : Dev nD) : Nat :=
  let c0_i32_129 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_128 : BitVec 32 := 16#32
  let v183 : BitVec 32 := Scalar.muli v12 c16_i32_128
  let v184 : BitVec 32 := Scalar.addi c0_i32_129 v183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v185 : BitVec 32 := Scalar.muli v5 c4_i32_130
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v187 : BitVec 32 := Scalar.muli v8 c1_i32_131
  let v188 : BitVec 32 := Scalar.addi v186 v187
  v188.toNat
def k0_dev44 (d0 : Dev nD) : Nat :=
  let c0_i32_156 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_155 : BitVec 32 := 16#32
  let v214 : BitVec 32 := Scalar.muli v12 c16_i32_155
  let v215 : BitVec 32 := Scalar.addi c0_i32_156 v214
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_157 : BitVec 32 := 4#32
  let v216 : BitVec 32 := Scalar.muli v5 c4_i32_157
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v218 : BitVec 32 := Scalar.muli v8 c1_i32_158
  let v219 : BitVec 32 := Scalar.addi v217 v218
  v219.toNat
def k0_dev45 (d0 : Dev nD) : Nat :=
  let c0_i32_183 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c16_i32_182 : BitVec 32 := 16#32
  let v245 : BitVec 32 := Scalar.muli v12 c16_i32_182
  let v246 : BitVec 32 := Scalar.addi c0_i32_183 v245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v247 : BitVec 32 := Scalar.muli v5 c4_i32_184
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v249 : BitVec 32 := Scalar.muli v8 c1_i32_185
  let v250 : BitVec 32 := Scalar.addi v248 v249
  v250.toNat
def k0_off11 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off12 (d0 : Dev nD) : Fin 2 → Nat :=
  let c1_i32_47 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v90 : BitVec 32 := Scalar.subi c1_i32_47 v2
  let c4_i32_48 : BitVec 32 := 4#32
  let v91 : BitVec 32 := Scalar.muli v90 c4_i32_48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v92 : BitVec 32 := Scalar.addi v91 v8
  let c512_i32_49 : BitVec 32 := 512#32
  let v93 : BitVec 32 := Scalar.muli v92 c512_i32_49
  let c0_i32_56 : BitVec 32 := 0#32
  ![v93.toNat, 0]
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v104 : BitVec 32 := Scalar.subi v8 c1_i32_58
  let c0_i32_59 : BitVec 32 := 0#32
  let v105 : BitVec 1 := Scalar.cmpi .sge v104 c0_i32_59
  let v106 : BitVec 32 := Scalar.extui v105
  let c0_i32_60 : BitVec 32 := 0#32
  let v107 : BitVec 1 := Scalar.cmpi .ne v106 c0_i32_60
  v107

def k0_off13 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v128 : BitVec 32 := Scalar.subi v8 c1_i32_76
  ![v128.toNat]
def k0_off14 (d0 : Dev nD) : Fin 2 → Nat :=
  let c1_i32_77 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v129 : BitVec 32 := Scalar.subi c1_i32_77 v2
  let c4_i32_79 : BitVec 32 := 4#32
  let v131 : BitVec 32 := Scalar.muli v129 c4_i32_79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v130 : BitVec 32 := Scalar.subi v8 c1_i32_78
  let v132 : BitVec 32 := Scalar.addi v131 v130
  let c512_i32_80 : BitVec 32 := 512#32
  let v133 : BitVec 32 := Scalar.muli v132 c512_i32_80
  let c0_i32_87 : BitVec 32 := 0#32
  ![v133.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v108 : BitVec 32 := Scalar.addi v8 c1_i32_61
  let c3_i32_62 : BitVec 32 := 3#32
  let v109 : BitVec 1 := Scalar.cmpi .sle v108 c3_i32_62
  let v110 : BitVec 32 := Scalar.extui v109
  let c0_i32_63 : BitVec 32 := 0#32
  let v111 : BitVec 1 := Scalar.cmpi .ne v110 c0_i32_63
  v111

def k0_off15 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v128 : BitVec 32 := Scalar.addi v8 c1_i32_76
  ![v128.toNat]
def k0_off16 (d0 : Dev nD) : Fin 2 → Nat :=
  let c1_i32_77 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v129 : BitVec 32 := Scalar.subi c1_i32_77 v2
  let c4_i32_79 : BitVec 32 := 4#32
  let v131 : BitVec 32 := Scalar.muli v129 c4_i32_79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v130 : BitVec 32 := Scalar.addi v8 c1_i32_78
  let v132 : BitVec 32 := Scalar.addi v131 v130
  let c512_i32_80 : BitVec 32 := 512#32
  let v133 : BitVec 32 := Scalar.muli v132 c512_i32_80
  let c0_i32_87 : BitVec 32 := 0#32
  ![v133.toNat, 0]
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_64 : BitVec 32 := 2#32
  let v112 : BitVec 32 := Scalar.subi v8 c2_i32_64
  let c0_i32_65 : BitVec 32 := 0#32
  let v113 : BitVec 1 := Scalar.cmpi .sge v112 c0_i32_65
  let v114 : BitVec 32 := Scalar.extui v113
  let c0_i32_66 : BitVec 32 := 0#32
  let v115 : BitVec 1 := Scalar.cmpi .ne v114 c0_i32_66
  v115

def k0_off17 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_76 : BitVec 32 := 2#32
  let v128 : BitVec 32 := Scalar.subi v8 c2_i32_76
  ![v128.toNat]
def k0_off18 (d0 : Dev nD) : Fin 2 → Nat :=
  let c1_i32_77 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v129 : BitVec 32 := Scalar.subi c1_i32_77 v2
  let c4_i32_79 : BitVec 32 := 4#32
  let v131 : BitVec 32 := Scalar.muli v129 c4_i32_79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_78 : BitVec 32 := 2#32
  let v130 : BitVec 32 := Scalar.subi v8 c2_i32_78
  let v132 : BitVec 32 := Scalar.addi v131 v130
  let c512_i32_80 : BitVec 32 := 512#32
  let v133 : BitVec 32 := Scalar.muli v132 c512_i32_80
  let c0_i32_87 : BitVec 32 := 0#32
  ![v133.toNat, 0]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_67 : BitVec 32 := 2#32
  let v116 : BitVec 32 := Scalar.addi v8 c2_i32_67
  let c3_i32_68 : BitVec 32 := 3#32
  let v117 : BitVec 1 := Scalar.cmpi .sle v116 c3_i32_68
  let v118 : BitVec 32 := Scalar.extui v117
  let c0_i32_69 : BitVec 32 := 0#32
  let v119 : BitVec 1 := Scalar.cmpi .ne v118 c0_i32_69
  v119

def k0_off19 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_76 : BitVec 32 := 2#32
  let v128 : BitVec 32 := Scalar.addi v8 c2_i32_76
  ![v128.toNat]
def k0_off20 (d0 : Dev nD) : Fin 2 → Nat :=
  let c1_i32_77 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v129 : BitVec 32 := Scalar.subi c1_i32_77 v2
  let c4_i32_79 : BitVec 32 := 4#32
  let v131 : BitVec 32 := Scalar.muli v129 c4_i32_79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_78 : BitVec 32 := 2#32
  let v130 : BitVec 32 := Scalar.addi v8 c2_i32_78
  let v132 : BitVec 32 := Scalar.addi v131 v130
  let c512_i32_80 : BitVec 32 := 512#32
  let v133 : BitVec 32 := Scalar.muli v132 c512_i32_80
  let c0_i32_87 : BitVec 32 := 0#32
  ![v133.toNat, 0]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_70 : BitVec 32 := 3#32
  let v120 : BitVec 32 := Scalar.subi v8 c3_i32_70
  let c0_i32_71 : BitVec 32 := 0#32
  let v121 : BitVec 1 := Scalar.cmpi .sge v120 c0_i32_71
  let v122 : BitVec 32 := Scalar.extui v121
  let c0_i32_72 : BitVec 32 := 0#32
  let v123 : BitVec 1 := Scalar.cmpi .ne v122 c0_i32_72
  v123

def k0_off21 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_76 : BitVec 32 := 3#32
  let v128 : BitVec 32 := Scalar.subi v8 c3_i32_76
  ![v128.toNat]
def k0_off22 (d0 : Dev nD) : Fin 2 → Nat :=
  let c1_i32_77 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v129 : BitVec 32 := Scalar.subi c1_i32_77 v2
  let c4_i32_79 : BitVec 32 := 4#32
  let v131 : BitVec 32 := Scalar.muli v129 c4_i32_79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_78 : BitVec 32 := 3#32
  let v130 : BitVec 32 := Scalar.subi v8 c3_i32_78
  let v132 : BitVec 32 := Scalar.addi v131 v130
  let c512_i32_80 : BitVec 32 := 512#32
  let v133 : BitVec 32 := Scalar.muli v132 c512_i32_80
  let c0_i32_87 : BitVec 32 := 0#32
  ![v133.toNat, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_73 : BitVec 32 := 3#32
  let v124 : BitVec 32 := Scalar.addi v8 c3_i32_73
  let c3_i32_74 : BitVec 32 := 3#32
  let v125 : BitVec 1 := Scalar.cmpi .sle v124 c3_i32_74
  let v126 : BitVec 32 := Scalar.extui v125
  let c0_i32_75 : BitVec 32 := 0#32
  let v127 : BitVec 1 := Scalar.cmpi .ne v126 c0_i32_75
  v127

def k0_off23 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_76 : BitVec 32 := 3#32
  let v128 : BitVec 32 := Scalar.addi v8 c3_i32_76
  ![v128.toNat]
def k0_off24 (d0 : Dev nD) : Fin 2 → Nat :=
  let c1_i32_77 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v129 : BitVec 32 := Scalar.subi c1_i32_77 v2
  let c4_i32_79 : BitVec 32 := 4#32
  let v131 : BitVec 32 := Scalar.muli v129 c4_i32_79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_78 : BitVec 32 := 3#32
  let v130 : BitVec 32 := Scalar.addi v8 c3_i32_78
  let v132 : BitVec 32 := Scalar.addi v131 v130
  let c512_i32_80 : BitVec 32 := 512#32
  let v133 : BitVec 32 := Scalar.muli v132 c512_i32_80
  let c0_i32_87 : BitVec 32 := 0#32
  ![v133.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S_, .f32⟩
  | .hbm, ⟨3, _⟩ => ⟨S4096x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Plan.lean ====
/-
# The communication plan of the all-reduce, as tables

The mesh has 2 by 4 by 4 devices; device `c` stands at `(xc c, yc c, zc c)`. Every payment a device makes to
another one -- a barrier unit, or the bytes of a remote copy -- is one of 22 PORTS. A port names the semaphore
it pays and the neighbour it pays to; which ports a device uses, and in which order, depends only on its place.
The facts about these tables are decided by evaluation over the 32 devices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic
open Idealize.ShloMosaic.TcCoe
open Idealize.SL.Sem

/-! ## The mesh -/

/-- The three coordinates of a device. -/
def xc (c : Dev nD) : ℕ := c.val / 16
def yc (c : Dev nD) : ℕ := c.val / 4 % 4
def zc (c : Dev nD) : ℕ := c.val % 4

/-- The device at given coordinates, each read modulo its axis. -/
def at3 (x y z : ℕ) : Dev nD := ⟨16 * (x % 2) + 4 * (y % 4) + z % 4, by simp only [nD]; omega⟩

/-- The neighbours a device talks to: across `x`; along `y` up, down, inside its pair, and mirrored; along `z`
    up and down. -/
def xp (c : Dev nD) : Dev nD := at3 (xc c + 1) (yc c) (zc c)
def yup (c : Dev nD) : Dev nD := at3 (xc c) (yc c + 1) (zc c)
def ydn (c : Dev nD) : Dev nD := at3 (xc c) (yc c + 3) (zc c)
def ypair (c : Dev nD) : Dev nD := at3 (xc c) (yc c + 1 - 2 * (yc c % 2)) (zc c)
def ymir (c : Dev nD) : Dev nD := at3 (xc c) (3 - yc c) (zc c)
def zup (c : Dev nD) : Dev nD := at3 (xc c) (yc c) (zc c + 1)
def zdn (c : Dev nD) : Dev nD := at3 (xc c) (yc c) (zc c + 3)

/-- The two middle devices of a column along `y`. -/
def mid (c : Dev nD) : Bool := yc c == 1 || yc c == 2

/-! ## The ports -/

/-- Whom a port pays, -/
def peer (s : Fin 22) (c : Dev nD) : Dev nD :=
  if s.val = 0 then yup c else if s.val = 1 then ydn c else if s.val = 2 then zup c else if s.val = 3 then zdn c
  else if s.val = 4 then xp c else if s.val = 5 then ypair c else if s.val = 6 then ymir c else if s.val = 7 then ypair c
  else if s.val = 8 then ypair c else if s.val = 9 then ymir c else if s.val < 14 then zup c else if s.val < 18 then zdn c
  else xp c

/-- and who is paid by whom. -/
def payer (s : Fin 22) (c : Dev nD) : Dev nD :=
  if s.val = 0 then ydn c else if s.val = 1 then yup c else if s.val = 2 then zdn c else if s.val = 3 then zup c
  else if s.val = 4 then xp c else if s.val = 5 then ypair c else if s.val = 6 then ymir c else if s.val = 7 then ypair c
  else if s.val = 8 then ypair c else if s.val = 9 then ymir c else if s.val < 14 then zdn c else if s.val < 18 then zup c
  else xp c

theorem payer_peer (s : Fin 22) (c : Dev nD) : payer s (peer s c) = c := by revert s c; decide +kernel
theorem peer_payer (s : Fin 22) (c : Dev nD) : peer s (payer s c) = c := by revert s c; decide +kernel

/-- A port's neighbour, as a permutation of the devices. -/
def perm (s : Fin 22) : Dev nD ≃ Dev nD := ⟨peer s, payer s, payer_peer s, peer_payer s⟩

/-- The barrier semaphore, and the DMA semaphore of number `i`. -/
abbrev bar : SemLoc sig := .reg barrier0
abbrev dq (i : ℕ) (h : i < 34 := by decide) : DmaSem sig := ⟨i, h⟩
abbrev d2 : DmaSem sig := dq 2
abbrev d3 : DmaSem sig := dq 3
abbrev d4 : DmaSem sig := dq 4
abbrev d5 : DmaSem sig := dq 5
abbrev d6 : DmaSem sig := dq 6
abbrev d7 : DmaSem sig := dq 7
abbrev d8 : DmaSem sig := dq 8
abbrev d9 : DmaSem sig := dq 9
abbrev d10 : DmaSem sig := dq 10
abbrev d11 : DmaSem sig := dq 11
abbrev d12 : DmaSem sig := dq 12
abbrev d13 : DmaSem sig := dq 13
abbrev d14 : DmaSem sig := dq 14
abbrev d15 : DmaSem sig := dq 15
abbrev d16 : DmaSem sig := dq 16
abbrev d17 : DmaSem sig := dq 17
abbrev d18 : DmaSem sig := dq 18
abbrev d19 : DmaSem sig := dq 19
abbrev d20 : DmaSem sig := dq 20
abbrev d21 : DmaSem sig := dq 21
abbrev d22 : DmaSem sig := dq 22
abbrev d23 : DmaSem sig := dq 23
abbrev d24 : DmaSem sig := dq 24
abbrev d25 : DmaSem sig := dq 25
abbrev d26 : DmaSem sig := dq 26
abbrev d27 : DmaSem sig := dq 27
abbrev d28 : DmaSem sig := dq 28
abbrev d29 : DmaSem sig := dq 29
abbrev d30 : DmaSem sig := dq 30
abbrev d31 : DmaSem sig := dq 31
abbrev d32 : DmaSem sig := dq 32
abbrev d33 : DmaSem sig := dq 33

/-- The semaphore a port pays, -/
def key (s : Fin 22) : SemLoc sig :=
  if s.val < 5 then bar else if s.val = 5 then .dma (dq 6) else if s.val = 6 then .dma (dq 7) else if s.val = 7 then .dma (dq 7)
  else if s.val = 8 then .dma (dq 8) else if s.val = 9 then .dma (dq 9)
  else .dma ⟨if s.val < 18 then s.val + 8 else s.val + 12, by
    have h := s.isLt
    show (if s.val < 18 then s.val + 8 else s.val + 12) < 34
    split <;> omega⟩

/-- and the duty of that semaphore's round it discharges. -/
def duty (s : Fin 22) : Fin 5 :=
  if h : s.val < 5 then ⟨s.val, h⟩ else if s.val = 7 then 1 else 0

/-- Whether a device makes a port's payment. -/
def ok (s : Fin 22) (c : Dev nD) : Bool :=
  if s.val = 0 then yc c < 3 else if s.val = 1 then 0 < yc c else if s.val = 2 then zc c < 3 else if s.val = 3 then 0 < zc c
  else if s.val = 4 then true else if s.val = 5 then true else if s.val = 6 then mid c else if s.val = 7 then mid c
  else if s.val = 8 then !mid c else if s.val = 9 then mid c
  else if s.val < 14 then s.val - 10 ≤ zc c && zc c < 3 else if s.val < 18 then 0 < zc c && zc c ≤ s.val - 14 else true

/-! ## The semaphores a device waits on -/

/-- Whether a device's DMA semaphore of number `i` is ever credited. -/
def used (c : Dev nD) (i : ℕ) : Bool :=
  if i < 2 then false else if i < 4 then true else if i < 6 then mid c else if i < 8 then true else if i < 10 then mid c
  else if i < 14 then i - 10 ≤ zc c && zc c < 3 else if i < 18 then 0 < zc c && zc c ≤ i - 14
  else if i < 22 then i - 18 < zc c else if i < 26 then zc c < i - 22 else true

/-- The one duty of a DMA semaphore's round. -/
def dutyAt (c : Dev nD) (i : ℕ) : Fin 5 := if i = 7 ∧ mid c = false then 1 else 0

/-- The barrier's duties: one per neighbour. -/
def nbr (c : Dev nD) (d : Fin 5) : Bool :=
  if d.val = 0 then 0 < yc c else if d.val = 1 then yc c < 3 else if d.val = 2 then 0 < zc c else if d.val = 3 then zc c < 3
  else true

/-- The neighbour behind a barrier duty. -/
def nbrOf (d : Fin 5) (c : Dev nD) : Dev nD := payer ⟨d.val, by omega⟩ c

/-- The duties of a device's semaphore in its one round. -/
def dutiesOf (c : Dev nD) : SemLoc sig → Finset (Fin 5)
  | .reg _ => Finset.univ.filter fun d => nbr c d = true
  | .dma i => if used c i.val then {dutyAt c i.val} else ∅

theorem duty_mem : ∀ (s : Fin 22) (c : Dev nD), ok s c = true → duty s ∈ dutiesOf (peer s c) (key s) := by
  decide +kernel

/-- How many units a device waits for at the barrier. -/
def barCount (c : Dev nD) : ℕ := (if yc c = 0 ∨ yc c = 3 then 1 else 2) + (if zc c = 0 ∨ zc c = 3 then 1 else 2) + 1

theorem barCount_eq : ∀ c : Dev nD, (dutiesOf c bar).card = barCount c := by decide +kernel

/-! ## Levels -/

/-- A semaphore's level: whoever waits on it owes only semaphores of higher levels. -/
def lvlOf (c : Dev nD) : SemLoc sig → ℕ
  | .reg _ => 1
  | .dma i =>
    if i.val < 6 then 0
    else if i.val = 6 then (if mid c then 2 else 4)
    else if i.val = 7 then (if mid c then 3 else 5)
    else if i.val = 8 then 2
    else if i.val = 9 then 4
    else if i.val < 18 then 0
    else if i.val < 22 then 10 + zc c
    else if i.val < 26 then 20 - zc c
    else if i.val < 30 then 0
    else 30

/-! ## The order of a device's payments -/

/-- The barrier's units, in the order they are signalled; -/
def barOrd (y z : ℕ) : List (Fin 22) :=
  (if 0 < y then [1] else []) ++ ((if y < 3 then [0] else []) ++ ((if 0 < z then [3] else []) ++ ((if z < 3 then [2] else []) ++ [4])))

/-- the copies along `y`; -/
def yOrd : ℕ → List (Fin 22)
  | 1 => [6, 5, 9, 7]
  | 2 => [6, 5, 9, 7]
  | _ => [8, 5]

/-- the copies along `z` and across `x`. -/
def zOrd : ℕ → List (Fin 22)
  | 0 => [10, 18, 19, 20, 21]
  | 1 => [11, 15, 19, 10, 18, 16, 20, 17, 21]
  | 2 => [12, 16, 20, 11, 19, 10, 18, 17, 21]
  | _ => [17, 21, 20, 19, 18]

/-- All of a device's payments, in program order. -/
def order (c : Dev nD) : List (Fin 22) := barOrd (yc c) (zc c) ++ (yOrd (yc c) ++ zOrd (zc c))

theorem order_nodup : ∀ c : Dev nD, (order c).Nodup := by decide +kernel
theorem mem_order : ∀ (c : Dev nD) (s : Fin 22), s ∈ order c ↔ ok s c = true := by decide +kernel

/-- Every semaphore a device still has to pay stands at level one or above. -/
theorem lvl_pos : ∀ (c : Dev nD) (s : Fin 22), 0 < lvlOf (peer s c) (key s) := by decide +kernel

end Cert.AllReduce

end
-- ==== Proof.Contents.lean ====
/-
# The buffers' rows and what they hold

The source and result blocks are 4096 rows of 1024 columns, the landing buffer three slots of 256 rows. A slice of a
block is a range of rows; a squeezed slice of the landing buffer is a slot. This module says which elements the
slices hold, what a read through one gives and what a copy into one leaves, and names the value the kernel computes.
-/
module

public import proofs.«01_k».proof.Proof.Plan
public import Idealize.ShloMosaic.Lib.Rounds

@[expose] public section

noncomputable section

namespace Cert.AllReduce

open Cert.KernelIdeal Cert.KernelIdeal.Gen
open Idealize.ShloMosaic
open Idealize.ShloMosaic.TcCoe
open Idealize.SL.Sem

variable {F : FTy → Type} [FloatOps F]

/-! ## Memrefs -/

/-- The staged source block, the staged result block, the landing buffer. -/
abbrev xM : Memref sig .tc .vmem S4096x1024 .f32 := Memref.whole cc0_stg0_0
abbrev oM : Memref sig .tc .vmem S4096x1024 .f32 := Memref.whole cc0_stg1_0
abbrev pM : Memref sig .tc .vmem S3x1x256x1024 .f32 := Memref.whole cc0_scratch0

/-- A range of rows of a block, and a slot of the landing buffer, as the kernel slices them. -/
abbrev rowsM (b : Memref sig .tc .vmem S4096x1024 .f32) (n : ℕ) (off : Fin 2 → ℕ)
    (inb : ∀ a, off a + (![n, 1024] : Fin 2 → ℕ) a ≤ S4096x1024.size a) : Memref sig .tc .vmem ⟨2, ![n, 1024]⟩ .f32 :=
  b.slice (Rect.unit (s := S4096x1024) off ![n, 1024] inb) (fun _ => rfl)
abbrev slotM (off : Fin 4 → ℕ) (inb : ∀ a, off a + S1x1x256x1024.size a ≤ S3x1x256x1024.size a) :
    Memref sig .tc .vmem S256x1024 .f32 :=
  (pM.slice (Rect.unit (s := S3x1x256x1024) off S1x1x256x1024.size inb) (fun _ => rfl)).squeeze S256x1024
    squeezes_S1x1x256x1024_S256x1024

/-- The credit of a copy of 256 rows, and of one of 512. -/
abbrev N1 : ℕ := (rowsM oM 256 ![0, 0] (by decide)).view.dmaCredit
abbrev N2 : ℕ := (rowsM oM 512 ![0, 0] (by decide)).view.dmaCredit

theorem N1_pos : 0 < N1 := View.dmaCredit_pos _ (by decide)
theorem N2_pos : 0 < N2 := View.dmaCredit_pos _ (by decide)

/-! ## Elements -/

/-- Row `r`, column `k` of a block, and of a slot (each read modulo its extent). -/
def ix (r k : ℕ) : S4096x1024.Idx := fun
  | ⟨0, _⟩ => (⟨r % 4096, Nat.mod_lt _ (by decide)⟩ : Fin 4096)
  | ⟨1, _⟩ => (⟨k % 1024, Nat.mod_lt _ (by decide)⟩ : Fin 1024)
  | ⟨_ + 2, h⟩ => absurd h (Nat.not_lt.2 (Nat.le_add_left _ _))
def sx (s r k : ℕ) : S3x1x256x1024.Idx := fun
  | ⟨0, _⟩ => (⟨s % 3, Nat.mod_lt _ (by decide)⟩ : Fin 3)
  | ⟨1, _⟩ => (⟨0, by decide⟩ : Fin 1)
  | ⟨2, _⟩ => (⟨r % 256, Nat.mod_lt _ (by decide)⟩ : Fin 256)
  | ⟨3, _⟩ => (⟨k % 1024, Nat.mod_lt _ (by decide)⟩ : Fin 1024)
  | ⟨_ + 4, h⟩ => absurd h (Nat.not_lt.2 (Nat.le_add_left _ _))

/-- The elements of `n` rows from row `lo`, and of a slot. -/
def rows (lo n : ℕ) : Finset S4096x1024.Idx := Finset.univ.filter fun i => lo ≤ (i 0).val ∧ (i 0).val < lo + n
def slot (s : ℕ) : Finset S3x1x256x1024.Idx := Finset.univ.filter fun i => (i 0).val = s

theorem mem_rows {lo n : ℕ} {i : S4096x1024.Idx} : i ∈ rows lo n ↔ lo ≤ (i 0).val ∧ (i 0).val < lo + n := by
  simp [rows]
theorem mem_slot {s : ℕ} {i : S3x1x256x1024.Idx} : i ∈ slot s ↔ (i 0).val = s := by simp [slot]

theorem ix_self (i : S4096x1024.Idx) : ix (i 0).val (i 1).val = i :=
  funext fun a => by
    match a with
    | ⟨0, _⟩ => exact Fin.ext (Nat.mod_eq_of_lt (i 0).isLt)
    | ⟨1, _⟩ => exact Fin.ext (Nat.mod_eq_of_lt (i 1).isLt)

theorem idx_rect {n lo : ℕ} {off : Fin 2 → ℕ} (hoff : off = ![lo, 0])
    (inb : ∀ a, off a + (![n, 1024] : Fin 2 → ℕ) a ≤ S4096x1024.size a) (j : (⟨2, ![n, 1024]⟩ : Shape).Idx) :
    (Rect.unit (s := S4096x1024) off ![n, 1024] inb).idx j = ix (lo + (j 0).val) (j 1).val := by
  subst hoff
  funext a
  match a with
  | ⟨0, h⟩ =>
    refine Fin.ext ?_
    have h0 := inb ⟨0, h⟩
    have hj := (j 0).isLt
    show lo + 1 * (j 0).val = (lo + (j 0).val) % 4096
    have h1 : lo + n ≤ 4096 := h0
    have h2 : (j 0).val < n := hj
    rw [Nat.mod_eq_of_lt (by omega)]; omega
  | ⟨1, h⟩ =>
    refine Fin.ext ?_
    show 0 + 1 * (j 1).val = (j 1).val % 1024
    have h2 : (j 1).val < 1024 := (j 1).isLt
    rw [Nat.mod_eq_of_lt h2]; omega

theorem mem_rect {n lo : ℕ} {off : Fin 2 → ℕ} (hoff : off = ![lo, 0])
    (inb : ∀ a, off a + (![n, 1024] : Fin 2 → ℕ) a ≤ S4096x1024.size a) :
    (Rect.unit (s := S4096x1024) off ![n, 1024] inb).set = rows lo n := by
  subst hoff
  ext i
  rw [Rect.mem_set_unit, mem_rows]
  have h1 : (i 1).val < 1024 := (i 1).isLt
  constructor
  · intro h; exact h 0
  · intro h a
    match a with
    | ⟨0, _⟩ => exact h
    | ⟨1, _⟩ => show 0 ≤ (i 1).val ∧ (i 1).val < 0 + 1024; omega

/-- A range of rows of the result or of the source is those rows' elements. -/
theorem oRows_set {n lo : ℕ} {off : Fin 2 → ℕ} (hoff : off = ![lo, 0]) (inb) : (rowsM oM n off inb).view.set = rows lo n :=
  (View.set_slice_whole cc0_stg1_0 _).trans (mem_rect hoff inb)
theorem xRows_set {n lo : ℕ} {off : Fin 2 → ℕ} (hoff : off = ![lo, 0]) (inb) : (rowsM xM n off inb).view.set = rows lo n :=
  (View.set_slice_whole cc0_stg0_0 _).trans (mem_rect hoff inb)

theorem pSlot_rect_set {s : ℕ} (inb) :
    (Rect.unit (s := S3x1x256x1024) ![s, 0, 0, 0] S1x1x256x1024.size inb).set = slot s := by
  ext i
  rw [Rect.mem_set_unit, mem_slot]
  have h1 : (i 1).val < 1 := (i 1).isLt
  have h2 : (i 2).val < 256 := (i 2).isLt
  have h3 : (i 3).val < 1024 := (i 3).isLt
  constructor
  · intro h
    have h0 := h 0
    have : s ≤ (i 0).val ∧ (i 0).val < s + 1 := h0
    omega
  · intro h a
    match a with
    | ⟨0, _⟩ => show s ≤ (i 0).val ∧ (i 0).val < s + 1; omega
    | ⟨1, _⟩ => show 0 ≤ (i 1).val ∧ (i 1).val < 0 + 1; omega
    | ⟨2, _⟩ => show 0 ≤ (i 2).val ∧ (i 2).val < 0 + 256; omega
    | ⟨3, _⟩ => show 0 ≤ (i 3).val ∧ (i 3).val < 0 + 1024; omega

theorem slotM_set {s : ℕ} (inb) : (slotM ![s, 0, 0, 0] inb).view.set = slot s := by
  show (((View.whole cc0_scratch0).slice _).reshape _ _).set = _
  rw [View.set_reshape, View.set_slice_whole, pSlot_rect_set]

/-! ## Reads -/

theorem read_oRows {n lo : ℕ} {off : Fin 2 → ℕ} (hoff : off = ![lo, 0]) (inb)
    (f : (cc0_stg1_0 : Ref sig .tc).ty.Contents (Elt F)) (j : (⟨2, ![n, 1024]⟩ : Shape).Idx) :
    (rowsM oM n off inb).view.read (Elt F) f j = f (ix (lo + (j 0).val) (j 1).val) := by
  rw [← idx_rect hoff inb j]; rfl

theorem read_xRows {n lo : ℕ} {off : Fin 2 → ℕ} (hoff : off = ![lo, 0]) (inb)
    (f : (cc0_stg0_0 : Ref sig .tc).ty.Contents (Elt F)) (j : (⟨2, ![n, 1024]⟩ : Shape).Idx) :
    (rowsM xM n off inb).view.read (Elt F) f j = f (ix (lo + (j 0).val) (j 1).val) := by
  rw [← idx_rect hoff inb j]; rfl

/-- A slot's rows, read as a four-dimensional box. -/
theorem idx_slot {s : ℕ} (inb) (j : S1x1x256x1024.Idx) :
    (Rect.unit (s := S3x1x256x1024) ![s, 0, 0, 0] S1x1x256x1024.size inb).idx j = sx s (j 2).val (j 3).val := by
  funext a
  have h0 : s + 1 ≤ 3 := inb 0
  match a with
  | ⟨0, _⟩ =>
    refine Fin.ext ?_
    have : (j 0).val < 1 := (j 0).isLt
    show s + 1 * (j 0).val = s % 3
    rw [Nat.mod_eq_of_lt (by omega)]; omega
  | ⟨1, _⟩ =>
    refine Fin.ext ?_
    have : (j 1).val < 1 := (j 1).isLt
    show 0 + 1 * (j 1).val = 0
    omega
  | ⟨2, _⟩ =>
    refine Fin.ext ?_
    have : (j 2).val < 256 := (j 2).isLt
    show 0 + 1 * (j 2).val = (j 2).val % 256
    rw [Nat.mod_eq_of_lt this]; omega
  | ⟨3, _⟩ =>
    refine Fin.ext ?_
    have : (j 3).val < 1024 := (j 3).isLt
    show 0 + 1 * (j 3).val = (j 3).val % 1024
    rw [Nat.mod_eq_of_lt this]; omega

/-- The 1 by 1 by 256 by 1024 index at a row and a column. -/
def fx (j : S256x1024.Idx) : S1x1x256x1024.Idx := fun
  | ⟨0, _⟩ => (⟨0, by decide⟩ : Fin 1)
  | ⟨1, _⟩ => (⟨0, by decide⟩ : Fin 1)
  | ⟨2, _⟩ => j 0
  | ⟨3, _⟩ => j 1
  | ⟨_ + 4, h⟩ => absurd h (Nat.not_lt.2 (Nat.le_add_left _ _))

/-- Re-indexing 256 by 1024 as 1 by 1 by 256 by 1024 puts two zeros in front. -/
theorem reshape_front (h : S256x1024.numel = S1x1x256x1024.numel) (j : S256x1024.Idx) : Shape.reshapeEquiv h j = fx j :=
  Shape.reshapeEquiv_eq_of_rowMajor h (by
    rw [Shape.rowMajor_val_four, Shape.rowMajor_val_two]
    show ((0 * 1 + 0) * 256 + (j 0).val) * 1024 + (j 1).val = (j 0).val * 1024 + (j 1).val
    omega)

theorem read_slot {s : ℕ} (inb) (f : (cc0_scratch0 : Ref sig .tc).ty.Contents (Elt F)) (j : S256x1024.Idx) :
    (slotM ![s, 0, 0, 0] inb).view.read (Elt F) f j = f (sx s (j 0).val (j 1).val) := by
  have h := idx_slot inb (fx j)
  have e : (slotM ![s, 0, 0, 0] inb).view.read (Elt F) f j
      = f ((Rect.unit (s := S3x1x256x1024) ![s, 0, 0, 0] S1x1x256x1024.size inb).idx
          (Shape.reshapeEquiv squeezes_S1x1x256x1024_S256x1024.numel_eq j)) := rfl
  rw [e, reshape_front, h]; rfl

theorem load_slot {s : ℕ} (inb) (f : (cc0_scratch0 : Ref sig .tc).ty.Contents (Elt F)) (j : S1x1x256x1024.Idx) :
    (pM : Memref sig .tc .vmem S3x1x256x1024 .f32).view.readAt (Elt F)
        (Rect.unit (s := S3x1x256x1024) ![s, 0, 0, 0] S1x1x256x1024.size inb).toLoadRect f j
      = f (sx s (j 2).val (j 3).val) := by
  rw [← idx_slot inb j]; rfl

/-- A copy leaves, on the elements it writes, any contents that read there as the source does. -/
theorem landed_congr {κ κ' : Kind} {sp sp' : Space} {s : Shape} {e : EltTy} {v : View sig κ sp s e} {w : View sig κ' sp' s e}
    {fd g : v.ty.Contents (Elt F)} {fs : w.ty.Contents (Elt F)}
    (h : ∀ j, v.read (Elt F) g j = w.read (Elt F) fs j) :
    ∀ i ∈ v.set, v.write (Elt F) fd (w.read (Elt F) fs) Finset.univ i = g i := by
  intro i hi
  rw [show w.read (Elt F) fs = v.read (Elt F) g from (funext h).symm, View.write_read_eq_piecewise]
  exact Finset.piecewise_eq_of_mem _ _ _ hi

/-! ## The sum -/

/-- Sums of two values. -/
abbrev add2 (a b : Elt F .f32) : Elt F .f32 := FloatOps.addf (F := F) (φ := .f32) a b

theorem pay1_apply (a : Vec F S256x1024 .f32) (b : Vec F S1x1x256x1024 .f32) (j : S256x1024.Idx) :
    k0_pay1 a b j = add2 (a j) (b (fx j)) := by
  show add2 (a (Shape.reshapeEquiv _ j)) (b (Shape.reshapeEquiv _ j)) = _
  rw [Shape.reshapeEquiv_self, reshape_front]
theorem pay2_apply (a : Vec F S256x1024 .f32) (b d : Vec F S1x1x256x1024 .f32) (j : S256x1024.Idx) :
    k0_pay2 a b d j = add2 (add2 (a j) (b (fx j))) (d (fx j)) := by
  show add2 (add2 (a (Shape.reshapeEquiv _ j)) (b (Shape.reshapeEquiv _ j))) (d (Shape.reshapeEquiv _ j)) = _
  rw [Shape.reshapeEquiv_self, reshape_front]
theorem pay3_eq : k0_pay3 (F := F) = k0_pay1 := rfl
theorem pay4_eq : k0_pay4 (F := F) = k0_pay2 := rfl

variable (X : Dev nD → (cc0_stg0_0 : Ref sig .tc).ty.Contents (Elt F))

/-- What a middle device's pair sums to, in the order the device adds: its own source and its outer neighbour's. -/
def part (c : Dev nD) : S4096x1024.Idx → Elt F .f32 := fun i => add2 (X c i) (X (ypair c) i)

/-- The two middle devices of the column that sums rows `r`, the one that adds last first. -/
def lastMid (r : ℕ) : Dev nD := at3 (r / 2048) (1 + r / 256 % 2) (r / 512 % 4)

/-- The kernel's result: at every row, the last middle device's pair and the other's. -/
def total : S4096x1024.Idx → Elt F .f32 := fun i =>
  add2 (part X (lastMid (i 0).val) i) (part X (ymir (lastMid (i 0).val)) i)

/-- A part of a landing slot's contents: rows of a block from row `lo`. -/
def fromRows (g : S4096x1024.Idx → Elt F .f32) (lo : ℕ) : (cc0_scratch0 : Ref sig .tc).ty.Contents (Elt F) :=
  fun i => g (ix (lo + (i 2).val) (i 3).val)

theorem fromRows_sx (g : S4096x1024.Idx → Elt F .f32) (lo s : ℕ) (j : S256x1024.Idx) :
    fromRows g lo (sx s (j 0).val (j 1).val) = g (ix (lo + (j 0).val) (j 1).val) := by
  have h0 : (j 0).val < 256 := (j 0).isLt
  have h1 : (j 1).val < 1024 := (j 1).isLt
  show g (ix (lo + (j 0).val % 256) ((j 1).val % 1024)) = _
  rw [Nat.mod_eq_of_lt h0, Nat.mod_eq_of_lt h1]

/-! ## A device's rows -/

/-- The first row of the part of a device's column, and of its halves: the one its pair finishes first (`near`)
    and the other. -/
def lo (c : Dev nD) : ℕ := 2048 * xc c + 512 * zc c
def near (c : Dev nD) : ℕ := lo c + 256 * (yc c / 2)
def far (c : Dev nD) : ℕ := lo c + 256 * (1 - yc c / 2)

theorem near_lt (c : Dev nD) : near c + 256 ≤ 4096 := by revert c; decide +kernel
theorem far_lt (c : Dev nD) : far c + 256 ≤ 4096 := by revert c; decide +kernel

theorem ix_row (r k : ℕ) (h : r < 4096) : ((ix r k) 0).val = r := Nat.mod_eq_of_lt h

theorem lastMid_near : ∀ c : Dev nD, mid c = true → at3 (near c / 2048) (1 + near c / 256 % 2) (near c / 512 % 4) = c := by
  decide +kernel

/-- On its near rows a middle device adds last. -/
theorem lastMid_row (c : Dev nD) (hm : mid c = true) (j : ℕ) (hj : j < 256) : lastMid (near c + j) = c := by
  have h := lastMid_near c hm
  have hd : 256 ∣ near c := ⟨8 * xc c + 2 * zc c + yc c / 2, by unfold near lo; omega⟩
  obtain ⟨k, hk⟩ := hd
  rw [hk] at h ⊢
  unfold lastMid
  rw [show (256 * k + j) / 2048 = 256 * k / 2048 by omega, show (256 * k + j) / 256 % 2 = 256 * k / 256 % 2 by omega,
    show (256 * k + j) / 512 % 4 = 256 * k / 512 % 4 by omega]
  exact h

theorem total_near (c : Dev nD) (hm : mid c = true) (j k : ℕ) (hj : j < 256) :
    total X (ix (near c + j) k) = add2 (part X c (ix (near c + j) k)) (part X (ymir c) (ix (near c + j) k)) := by
  have := near_lt c
  show add2 (part X (lastMid _) _) (part X (ymir (lastMid _)) _) = _
  rw [ix_row _ _ (by omega), lastMid_row c hm j hj]

end Cert.AllReduce

end
-- ==== Proof.Schedule.lean ====
/-
# The schedule: who pays which semaphore, with what

Every semaphore of the kernel has at most one round. The payment of a barrier unit carries permission to write: the
payer's elements that the paid device will fill. The payment of a copy's bytes carries the elements the copy filled,
or hands the copy's source back. This module states these payloads, what each device owes at launch, the levels that
order the waits, and the schedule of all of it.
-/
module

public import proofs.«01_k».proof.Proof.Contents

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

abbrev Blk (F : FTy → Type) [FloatOps F] : Type := S4096x1024.Idx → Elt F .f32

variable (X : Dev nD → (cc0_stg0_0 : Ref sig .tc).ty.Contents (Elt F))

/-! ## Elements held -/

/-- Elements of device `c`'s staged result, staged source and landing buffer. -/
def oP (c : Dev nD) (S : Finset S4096x1024.Idx) (q : PosShare TreeShare) (f : Blk F) : sProp 𝕄 :=
  ((c : Thread nD τ).loc cc0_stg1_0) ↦[S]{q} (f : Buf (Elt F) ((c : Thread nD τ).loc cc0_stg1_0))
def xP (c : Dev nD) (S : Finset S4096x1024.Idx) (f : Blk F) : sProp 𝕄 :=
  ((c : Thread nD τ).loc cc0_stg0_0) ↦[S]{fullShare} (f : Buf (Elt F) ((c : Thread nD τ).loc cc0_stg0_0))
def pP (c : Dev nD) (s : ℕ) (f : (cc0_scratch0 : Ref sig .tc).ty.Contents (Elt F)) : sProp 𝕄 :=
  ((c : Thread nD τ).loc cc0_scratch0) ↦[slot s]{fullShare} (f : Buf (Elt F) ((c : Thread nD τ).loc cc0_scratch0))

/-- The same at unknown contents: elements that may be written. -/
def oH (c : Dev nD) (S : Finset S4096x1024.Idx) : sProp 𝕄 := iprop(∃ f, oP c S fullShare f)
def pH (c : Dev nD) (s : ℕ) : sProp 𝕄 := iprop(∃ f, pP c s f)

instance oP_storable (c : Dev nD) (S q) (f : Blk F) : BI.Storable (upEmb : UEmb _ 𝕄) (oP c S q f) := by unfold oP; infer_instance
instance xP_storable (c : Dev nD) (S) (f : Blk F) : BI.Storable (upEmb : UEmb _ 𝕄) (xP c S f) := by unfold xP; infer_instance
instance pP_storable (c : Dev nD) (s) (f) : BI.Storable (upEmb : UEmb _ 𝕄) (pP (F := F) c s f) := by unfold pP; infer_instance
instance oH_storable (c : Dev nD) (S) : BI.Storable (upEmb : UEmb _ 𝕄) (oH (F := F) c S) := by unfold oH; infer_instance
instance pH_storable (c : Dev nD) (s) : BI.Storable (upEmb : UEmb _ 𝕄) (pH (F := F) c s) := by unfold pH; infer_instance

/-- The rows of the part that the column at `(x, z)` sums. -/
abbrev prt (x z : ℕ) : Finset S4096x1024.Idx := rows (2048 * x + 512 * z) 512

/-! ## Payloads -/

/-- Device `n`'s parts of half `x`, those with `P`, free to write. -/
def allow (n : Dev nD) (x : ℕ) (P : ℕ → Bool) : sProp 𝕄 :=
  iprop((if P 0 then oH n (prt x 0) else emp) ∗ (if P 1 then oH n (prt x 1) else emp)
    ∗ (if P 2 then oH n (prt x 2) else emp) ∗ (if P 3 then oH n (prt x 3) else emp))

/-- What a neighbour `n` along `y` lets device `c` write: an outer device both halves of its own part, a middle
    device the slots of its landing buffer that are for `c`. -/
def yGive (c n : Dev nD) : sProp 𝕄 :=
  if mid c then (if mid n then pH n 1 else iprop(oH n (rows (near c) 256) ∗ oH n (rows (far c) 256)))
  else iprop(pH n 2 ∗ pH n 0)

/-- What a barrier unit carries to device `c`. -/
def barPay (c : Dev nD) (d : Fin 5) : sProp 𝕄 :=
  if d.val = 2 then allow (nbrOf d c) (xc c) (fun z => zc c ≤ z)
  else if d.val = 3 then allow (nbrOf d c) (xc c) (fun z => z ≤ zc c)
  else if d.val = 4 then allow (nbrOf d c) (xc c) (fun _ => true)
  else yGive c (nbrOf d c)

/-- What the semaphores of the copies along `y` carry. -/
def yPay (c : Dev nD) (i : ℕ) : sProp 𝕄 :=
  if i = 2 then (if mid c then iprop(emp) else xP c (rows (near c) 256) (X c))
  else if i = 3 then (if mid c then oP c (rows (near c) 256) fullShare.left (total X) else xP c (rows (far c) 256) (X c))
  else if i = 4 then oP c (rows (near c) 256) fullShare.right (total X)
  else if i = 5 then oP c (rows (far c) 256) fullShare (total X)
  else if i = 6 then (if mid c then pP c 0 (fromRows (X (ypair c)) (near c)) else oP c (rows (near c) 256) fullShare (total X))
  else if i = 7 then
    (if mid c then iprop(pP c 1 (fromRows (part X (ymir c)) (near c)) ∗ oH (ymir c) (rows (near c) 256))
      else oP c (rows (far c) 256) fullShare (total X))
  else if i = 8 then pP c 2 (fromRows (X (ypair c)) (far c))
  else if i = 9 then oP c (rows (far c) 256) fullShare (total X)
  else iprop(emp)

/-- The three shares of a part that its sends down, up and across hold. -/
abbrev sh0 : PosShare TreeShare := fullShare.left
abbrev sh1 : PosShare TreeShare := fullShare.right.left
abbrev sh2 : PosShare TreeShare := fullShare.right.right

/-- What the semaphores of the copies along `z` and across `x` carry. -/
def zPay (c : Dev nD) (i : ℕ) : sProp 𝕄 :=
  if i < 14 then oP c (prt (xc c) (i - 10)) sh0 (total X)
  else if i < 18 then oP c (prt (xc c) (i - 14)) sh1 (total X)
  else if i < 22 then oP c (prt (xc c) (i - 18)) fullShare (total X)
  else if i < 26 then oP c (prt (xc c) (i - 22)) fullShare (total X)
  else if i < 30 then oP c (prt (xc c) (i - 26)) sh2 (total X)
  else oP c (prt (1 - xc c) (i - 30)) fullShare (total X)

def pay (c : Dev nD) : SemLoc sig → Fin 5 → sProp 𝕄
  | .reg _, d => barPay c d
  | .dma i, _ => if i.val < 10 then yPay X c i.val else zPay X c i.val

instance gives_storable (n : Dev nD) (x P) : BI.Storable (upEmb : UEmb _ 𝕄) (allow (F := F) n x P) := by
  unfold allow; (repeat' split) <;> infer_instance
instance yGive_storable (c n : Dev nD) : BI.Storable (upEmb : UEmb _ 𝕄) (yGive (F := F) c n) := by
  unfold yGive; (repeat' split) <;> infer_instance
instance barPay_storable (c : Dev nD) (d) : BI.Storable (upEmb : UEmb _ 𝕄) (barPay (F := F) c d) := by
  unfold barPay; (repeat' split) <;> infer_instance
instance yPay_storable (c : Dev nD) (i) : BI.Storable (upEmb : UEmb _ 𝕄) (yPay X c i) := by
  unfold yPay; (repeat' split) <;> infer_instance
instance zPay_storable (c : Dev nD) (i) : BI.Storable (upEmb : UEmb _ 𝕄) (zPay X c i) := by
  unfold zPay; (repeat' split) <;> infer_instance

/-- The amount of a payment. -/
def amt : SemLoc sig → ℕ
  | .reg _ => 1
  | .dma i => if i.val < 10 then N1 else N2

theorem amt_pos (sm : SemLoc sig) : 0 < amt sm := by
  unfold amt; split
  · exact Nat.one_pos
  · split
    · exact N1_pos
    · exact N2_pos

/-- The schedule. -/
def rd : Rounds.Schedule (GSem nD τ sig) (Fin 5) 𝕄 where
  duties g r := if r = 0 ∧ g.1.2 = .tc then dutiesOf g.1.1 g.2 else ∅
  unitless _ := False
  amount g _ _ := amt g.2
  payload g _ d := pay X g.1.1 g.2 d
  amount_pos g _ _ _ := amt_pos g.2

instance rd_storable (g : GSem nD τ sig) (r : ℕ) (d : Fin 5) : BI.Storable (upEmb : UEmb _ 𝕄) ((rd X).payload g r d) := by
  show BI.Storable upEmb (pay X g.1.1 g.2 d)
  unfold pay; (repeat' split) <;> infer_instance

/-- A semaphore of a device. -/
abbrev cell (c : Dev nD) (sm : SemLoc sig) : GSem nD τ sig := ((c : Thread nD τ), sm)

theorem duties_0 (c : Dev nD) (sm : SemLoc sig) : (rd X).duties (cell c sm) 0 = dutiesOf c sm := by dsimp only [rd]; exact if_pos ⟨rfl, rfl⟩
theorem duties_later (g : GSem nD τ sig) : ∀ r, 1 ≤ r → (rd X).duties g r = ∅ :=
  fun r hr => by dsimp only [rd]; exact if_neg fun h => by omega
theorem duties_unused (c : Dev nD) (i : DmaSem sig) (h : used c i.val = false) : ∀ r, 0 ≤ r → (rd X).duties (cell c (.dma i)) r = ∅ := by
  intro r _
  rcases Nat.eq_zero_or_pos r with rfl | hr
  · rw [duties_0]; exact if_neg (by rw [h]; decide)
  · exact duties_later X _ r hr
theorem duties_dma (c : Dev nD) (i : DmaSem sig) (h : used c i.val = true) : (rd X).duties (cell c (.dma i)) 0 = {dutyAt c i.val} := by
  rw [duties_0]; exact if_pos h

theorem expect_dma (c : Dev nD) (i : DmaSem sig) (h : used c i.val = true) : (rd X).expect (cell c (.dma i)) 0 = amt (.dma i) := by
  unfold Schedule.expect Schedule.amountOf; rw [duties_dma X c i h, Finset.sum_singleton]; rfl
theorem expect_bar (c : Dev nD) : (rd X).expect (cell c bar) 0 = barCount c := by
  unfold Schedule.expect Schedule.amountOf
  rw [duties_0, ← barCount_eq c]
  exact (Finset.card_eq_sum_ones _).symm

theorem rest_dma (c : Dev nD) (i : DmaSem sig) (h : used c i.val = true) :
    bigSep ((rd X).duties (cell c (.dma i)) 0 \ ∅) (fun d => (rd X).payload (cell c (.dma i)) 0 d) = pay X c (.dma i) 0 := by
  rw [Finset.sdiff_empty, duties_dma X c i h, bigSep_singleton]; rfl

theorem payload_bar (c : Dev nD) (d : Fin 5) : (rd X).payload (cell c bar) 0 d = barPay c d := rfl

/-! ## What is owed -/

/-- The payment of a port, and of a list of ports, the first last. -/
def tal (c : Dev nD) (s : Fin 22) : CellTallies nD τ sig Unit := tallyAt (cell (peer s c) (key s)) () (amt (key s))
def owesL (c : Dev nD) : List (Fin 22) → CellTallies nD τ sig Unit
  | [] => 0
  | s :: l => owesL c l + tal c s

theorem owesL_cons (c : Dev nD) (s : Fin 22) (l : List (Fin 22)) :
    owesL c (s :: l) = owesL c l + tallyAt (cell (peer s c) (key s)) () (amt (key s)) := rfl

theorem owesL_pos {c : Dev nD} {l : List (Fin 22)} {g : GSem nD τ sig} {u : Unit} (h : 0 < owesL c l g u) :
    ∃ s ∈ l, g = cell (peer s c) (key s) := by
  induction l with
  | nil => exact absurd h (Nat.lt_irrefl 0)
  | cons s l ih =>
    unfold owesL tal at h
    rw [Pi.add_apply, Finsupp.add_apply, tallyAt_apply] at h
    by_cases hg : g = cell (peer s c) (key s) ∧ u = ()
    · exact ⟨s, List.mem_cons_self, hg.1⟩
    · rw [if_neg hg, Nat.add_zero] at h
      obtain ⟨t, ht, e⟩ := ih h
      exact ⟨t, List.mem_cons_of_mem _ ht, e⟩

def L (g : GSem nD τ sig) : Finset Unit := if g.1.2 = .tc then {()} else ∅
def lv (g : GSem nD τ sig) (_ : Unit) : ℕ := lvlOf g.1.1 g.2

theorem L_of_ne (g : GSem nD τ sig) (h : g.1.2 ≠ .tc) : L g = ∅ := if_neg h
theorem L_tc (c : Dev nD) (sm : SemLoc sig) : L (cell c sm) = {()} := if_pos rfl

/-- A device may wait on a semaphore below everything it owes. -/
theorem mayWait_of (c : Dev nD) (sm : SemLoc sig) (l : List (Fin 22))
    (h : ∀ s ∈ l, lvlOf c sm < lvlOf (peer s c) (key s)) : (levAts L lv : sProp 𝕄) ⊢ MayWait (c : Thread nD τ) sm () (owesL c l) :=
  MayOwe.of_cut (L := L) (lev := lv) (lvlOf c sm) (fun p hp => by rw [Finset.mem_singleton.mp hp]; exact Finset.mem_singleton_self _)
    (fun g u hg => by obtain ⟨s, _, rfl⟩ := owesL_pos hg; exact Finset.mem_singleton_self _)
    (fun p hp => by rw [Finset.mem_singleton.mp hp]; exact Nat.le_refl _)
    (fun g u hg => by obtain ⟨s, hs, rfl⟩ := owesL_pos hg; exact h s hs)

/-- What a device owes, whatever it has waited on. -/
def owing (c : Dev nD) (l : List (Fin 22)) : sProp 𝕄 := iprop(∃ W, owes (c : Thread nD τ) (owesL c l) W)

/-! ## The semaphores of a device, and what is known of all of them -/

/-- The barrier and the 32 semaphores of the copies. -/
def osem (k : Fin 33) : SemLoc sig := if h : k.val = 0 then bar else .dma ⟨k.val + 1, by show k.val + 1 < 34; omega⟩
abbrev kcell (ck : Dev nD × Fin 33) : GSem nD τ sig := cell ck.1 (osem ck.2)

/-- Every semaphore's invariant, and that its round is open. -/
def recs : sProp 𝕄 :=
  iprop((bigSep Finset.univ fun ck : Dev nD × Fin 33 => iprop(∃ κ : ℕ, cellInv ER (rd X) κ (kcell ck)))
    ∗ bigSep Finset.univ fun ck : Dev nD × Fin 33 => reached ER (kcell ck) 0)
instance recs_persistent : BI.Persistent (recs X) := by unfold recs; infer_instance

def world : sProp 𝕄 := iprop(recs X ∗ levAts L lv)
instance world_persistent : BI.Persistent (world X) := by unfold world; infer_instance

theorem recs_at (c : Dev nD) (sm : SemLoc sig) (h : ∃ k, osem k = sm) :
    recs X ⊢ iprop((∃ κ : ℕ, cellInv ER (rd X) κ (cell c sm)) ∗ reached ER (cell c sm) 0) := by
  obtain ⟨k, rfl⟩ := h
  unfold recs
  exact Idealize.SL.BI.sep_mono (bigSep_elim (Finset.mem_univ (c, k))) (bigSep_elim (Finset.mem_univ (c, k)))

theorem real_key : ∀ s : Fin 22, ∃ k, osem k = key s := by decide +kernel
theorem real_bar : ∃ k, osem k = bar := ⟨0, rfl⟩
theorem real_dma (i : ℕ) (hi : i < 34) (h2 : 2 ≤ i) : ∃ k, osem k = .dma (⟨i, hi⟩ : DmaSem sig) :=
  ⟨⟨i - 1, by omega⟩, by
    unfold osem; rw [dif_neg (show ¬ i - 1 = 0 by omega)]
    congr 1; exact Fin.ext (show i - 1 + 1 = i by omega)⟩

/-- The duty token a port's payment spends; a receive semaphore ready to be waited on; a send semaphore ready to
    be used. -/
def ptok (c : Dev nD) (s : Fin 22) : sProp 𝕄 := dutyTok ER (cell (peer s c) (key s)) 0 (duty s)
def rcv (c : Dev nD) (i : DmaSem sig) : sProp 𝕄 :=
  iprop(atPos ER (cell c (.dma i)) 0 ∅ 0 ∗ cred (tallyAt (cell c (.dma i)) () (amt (.dma i))))
def snd (c : Dev nD) (i : DmaSem sig) : sProp 𝕄 :=
  iprop(atPos ER (cell c (.dma i)) 0 ∅ 0 ∗ dutyTok ER (cell c (.dma i)) 0 (dutyAt c i.val))
def zero (c : Dev nD) (i : DmaSem sig) : sProp 𝕄 := semVal (cell c (.dma i)) 0

end Cert.AllReduce

end
-- ==== Proof.Steps.lean ====
/-
# One step of the kernel at a time

For each kind of instruction that pays or waits, one rule: from what a device holds before it to what it holds after.
-/
module

public import proofs.«01_k».proof.Proof.Schedule

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

abbrev 𝒱₀ : Variants := Variants.none

/-- The triple of a program running on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A semaphore never used has its counter at zero. -/
theorem close_unused (c : Dev nD) (i : DmaSem sig) (h2 : 2 ≤ i.val) (hu : used c i.val = false) :
    iprop(world X ∗ atPos ER (cell c (.dma i)) 0 ∅ 0) ⊢ (|={Set.univ}=> zero c i : sProp 𝕄) := by
  unfold world zero
  iintro ⟨⟨#HR, -⟩, Hat⟩
  ihave Hc := (recs_at X c (.dma i) (real_dma i.val i.isLt h2)) $$ HR
  icases Hc with ⟨⟨%κ, #HI⟩, -⟩
  iapply (Rounds.cell_close ER (rd X) (κ := κ) (Set.mem_univ _) (fun h => h) (R := 0) (duties_unused X c i hu))
  isplitr; · iexact HI
  iexact Hat

/-- A wait on a copy's semaphore: its counter is at zero for good, and what the copy's bytes carry comes. -/
theorem wp_wait (c : Dev nD) (i : DmaSem sig) (l : List (Fin 22)) (h2 : 2 ≤ i.val) (hu : used c i.val = true)
    (hl : ∀ s ∈ l, lvlOf c (.dma i) < lvlOf (peer s c) (key s))
    {sem : DmaSem sig} (hs : sem = i) {s s' : Shape} {src : Memref sig .tc .vmem s .f32} {dst : Memref sig .tc .vmem s' .f32}
    {hsrc : src.view.WordExact} {hdst : dst.view.WordExact} (hN : dst.view.dmaCredit = amt (.dma i))
    {α : Type} {Q : α → sProp 𝕄} {k : PUnit → Prog (TpuEff nD τ sig (Elt F) Λ₀ .tc) α} :
    iprop(world X ∗ rcv c i ∗ owing c l)
      ⊢ iprop(((zero c i ∗ pay X c (.dma i) 0 ∗ owing c l) -∗ WP c (k ⟨⟩) Q)
          -∗ WP c (.op (.waitDma2 sem src dst hsrc hdst) k) Q) := by
  subst hs
  unfold world rcv owing zero
  iintro ⟨⟨#HR, #HL⟩, ⟨Hat, Hcr⟩, ⟨%W, HO⟩⟩ Hk
  ihave Hc := (recs_at X c (.dma sem) (real_dma sem.val sem.isLt h2)) $$ HR
  icases Hc with ⟨⟨%κ, #HI⟩, -⟩
  iapply (Rounds.wp_wait_rest_token 𝒱₀ ER (rd X) (c : Thread nD τ) none (κ := κ)
      (wpE_waitDma2_eq 𝒱₀ (c : Thread nD τ) none Set.univ) (Set.mem_univ _) () (O := owesL c l) (W := W) (R := 0) (m := 0) (T := ∅)
      (by rw [Nat.zero_add, hN, expect_dma X c sem hu])) $$ [Hcr HO Hat]
  · isplitr; · iexact HI
    isplitl [Hcr]; · rw [hN]; iexact Hcr
    isplitl [HO]; · iexact HO
    isplitr; · iapply (mayWait_of c (.dma sem) l hl); iexact HL
    iexact Hat
  iintro ⟨HO, Hat, -, Hpay⟩
  imod (Rounds.cell_close ER (rd X) (Set.mem_univ κ) (fun h => h) (R := 0 + 1) (duties_later X (cell c (.dma sem)))) $$ [Hat] with Hz
  · isplitr; · iexact HI
    iexact Hat
  iapply Hk
  isplitl [Hz]; · iexact Hz
  isplitl [Hpay]; · iapply (Entails.of_eq (rest_dma X c sem hu)); iexact Hpay
  iexists _; iexact HO

/-- A copy to a neighbour: it pays port `s`, and the sender's semaphore may be waited on. The elements written carry
    to the receiver what port `s` is to carry, the elements read come back with the sender's semaphore. -/
theorem wp_send (c n : Dev nD) (s : Fin 22) (i : DmaSem sig) (l : List (Fin 22)) (hn : n = peer s c) (hok : ok s c = true)
    (h2 : 2 ≤ i.val) (hu : used c i.val = true) {sS sem : DmaSem sig} (hS : sS = i) (hk : (SemLoc.dma sem : SemLoc sig) = key s)
    {sh : Shape} {src : Memref sig .tc .vmem sh .f32} {dst : Memref sig .tc .vmem sh .f32}
    (hN : dst.view.dmaCredit = amt (key s)) (hNi : amt (.dma i) = amt (key s))
    {q : PosShare TreeShare} (fs : Buf (Elt F) (src.view.loc (c : Thread nD τ))) (fd : Buf (Elt F) (dst.view.loc (peer s c : Thread nD τ)))
    (hpay₁ : (src.view.loc (c : Thread nD τ) ↦[src.view.set]{q} fs) ⊢ pay X c (.dma i) 0)
    (hpay₂ : (dst.view.loc (peer s c : Thread nD τ) ↦[dst.view.set]{fullShare}
        (dst.view.write (Elt F) fd (src.view.read (Elt F) fs) Finset.univ)) ⊢ pay X (peer s c) (key s) (duty s))
    {hsc : (dst : Memref sig (Dev.tc n : Thread nD τ).2.kind .vmem sh .f32).view.ref.isScScratch = false}
    {hsrc : src.view.WordExact} {hdst : dst.view.WordExact}
    {hsem : DmaTarget.Typed .vmem (.dma sem) (.remote (Dev.tc n : Thread nD τ) (dst : Memref sig (Dev.tc n : Thread nD τ).2.kind .vmem sh .f32) (.dma sS) hsc)}
    {α : Type} {Q : α → sProp 𝕄} {k : PUnit → Prog (TpuEff nD τ sig (Elt F) Λ₀ .tc) α} :
    iprop(world X ∗ snd c i ∗ ptok c s ∗ owing c (s :: l) ∗ (src.view.loc (c : Thread nD τ) ↦[src.view.set]{q} fs)
        ∗ (dst.view.loc (peer s c : Thread nD τ) ↦[dst.view.set]{fullShare} fd))
      ⊢ iprop(((rcv c i ∗ owing c l) -∗ WP c (k ⟨⟩) Q)
          -∗ WP c (.op (.enqueueDma src (.remote (Dev.tc n : Thread nD τ) dst (.dma sS) hsc) (.dma sem) hsrc hdst hsem) k) Q) := by
  subst hn hS
  unfold world snd ptok rcv owing
  iintro ⟨⟨#HR, #HL⟩, ⟨Hat, Ht1⟩, Ht2, ⟨%W, HO⟩, Hs, Hd⟩ Hk
  ihave Hc := (recs_at X c (.dma sS) (real_dma sS.val sS.isLt h2)) $$ HR
  icases Hc with ⟨⟨%κ₁, #HI1⟩, #Hr1⟩
  ihave Hc := (recs_at X (peer s c) (key s) (real_key s)) $$ HR
  icases Hc with ⟨⟨%κ₂, #HI2⟩, #Hr2⟩
  rw [← hk] at hpay₂ hN hNi ⊢
  iapply (Rounds.wp_send_pointsTo 𝒱₀ ER (rd X) (c : Thread nD τ) none (κ₁ := κ₁) (κ₂ := κ₂) (c' := (peer s c : Thread nD τ))
    (r₁ := 0) (r₂ := 0) (d₁ := dutyAt c sS.val) (d₂ := duty s) (fd := fd) (src := src) (dst := dst) (sS := .dma sS) (sem := .dma sem)
    (by rw [duties_dma X c sS hu]; exact Finset.mem_singleton_self _)
    (by rw [duties_0, hk]; exact duty_mem s c hok)
    () () (amt (.dma sem)) hN hNi rfl (owesL c l) ((owesL_cons c s l).trans (by rw [hk])) (W := W) hpay₁ hpay₂) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk
  isplitl [Hat Hcr]
  · isplitl [Hat]; · iexact Hat
    rw [hNi]; iexact Hcr
  iexists W; iexact HO

/-- The same copy when the elements read go to the receiver with the elements written. -/
theorem wp_send_over (c n : Dev nD) (s : Fin 22) (i : DmaSem sig) (l : List (Fin 22)) (hn : n = peer s c) (hok : ok s c = true)
    (h2 : 2 ≤ i.val) (hu : used c i.val = true) {sS sem : DmaSem sig} (hS : sS = i) (hk : (SemLoc.dma sem : SemLoc sig) = key s)
    {sh : Shape} {src : Memref sig .tc .vmem sh .f32} {dst : Memref sig .tc .vmem sh .f32}
    (hN : dst.view.dmaCredit = amt (key s)) (hNi : amt (.dma i) = amt (key s))
    {q : PosShare TreeShare} (fs : Buf (Elt F) (src.view.loc (c : Thread nD τ))) (fd : Buf (Elt F) (dst.view.loc (peer s c : Thread nD τ)))
    (hpay₁ : (emp : sProp 𝕄) ⊢ pay X c (.dma i) 0)
    (hpay₂ : iprop((dst.view.loc (peer s c : Thread nD τ) ↦[dst.view.set]{fullShare}
        (dst.view.write (Elt F) fd (src.view.read (Elt F) fs) Finset.univ)) ∗ (src.view.loc (c : Thread nD τ) ↦[src.view.set]{q} fs))
        ⊢ pay X (peer s c) (key s) (duty s))
    {hsc : (dst : Memref sig (Dev.tc n : Thread nD τ).2.kind .vmem sh .f32).view.ref.isScScratch = false}
    {hsrc : src.view.WordExact} {hdst : dst.view.WordExact}
    {hsem : DmaTarget.Typed .vmem (.dma sem) (.remote (Dev.tc n : Thread nD τ) (dst : Memref sig (Dev.tc n : Thread nD τ).2.kind .vmem sh .f32) (.dma sS) hsc)}
    {α : Type} {Q : α → sProp 𝕄} {k : PUnit → Prog (TpuEff nD τ sig (Elt F) Λ₀ .tc) α} :
    iprop(world X ∗ snd c i ∗ ptok c s ∗ owing c (s :: l) ∗ (src.view.loc (c : Thread nD τ) ↦[src.view.set]{q} fs)
        ∗ (dst.view.loc (peer s c : Thread nD τ) ↦[dst.view.set]{fullShare} fd))
      ⊢ iprop(((rcv c i ∗ owing c l) -∗ WP c (k ⟨⟩) Q)
          -∗ WP c (.op (.enqueueDma src (.remote (Dev.tc n : Thread nD τ) dst (.dma sS) hsc) (.dma sem) hsrc hdst hsem) k) Q) := by
  subst hn hS
  unfold world snd ptok rcv owing
  iintro ⟨⟨#HR, #HL⟩, ⟨Hat, Ht1⟩, Ht2, ⟨%W, HO⟩, Hs, Hd⟩ Hk
  ihave Hc := (recs_at X c (.dma sS) (real_dma sS.val sS.isLt h2)) $$ HR
  icases Hc with ⟨⟨%κ₁, #HI1⟩, #Hr1⟩
  ihave Hc := (recs_at X (peer s c) (key s) (real_key s)) $$ HR
  icases Hc with ⟨⟨%κ₂, #HI2⟩, #Hr2⟩
  rw [← hk] at hpay₂ hN hNi ⊢
  iapply (Rounds.wp_send_landing_pointsTo 𝒱₀ ER (rd X) (c : Thread nD τ) none (κ₁ := κ₁) (κ₂ := κ₂) (c' := (peer s c : Thread nD τ))
    (r₁ := 0) (r₂ := 0) (d₁ := dutyAt c sS.val) (d₂ := duty s) (fd := fd) (src := src) (dst := dst) (sS := .dma sS) (sem := .dma sem)
    (by rw [duties_dma X c sS hu]; exact Finset.mem_singleton_self _)
    (by rw [duties_0, hk]; exact duty_mem s c hok)
    () () (amt (.dma sem)) hN hNi rfl (owesL c l) ((owesL_cons c s l).trans (by rw [hk])) (W := W) hpay₁ hpay₂) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk
  isplitl [Hat Hcr]
  · isplitl [Hat]; · iexact Hat
    rw [hNi]; iexact Hcr
  iexists W; iexact HO

/-- A unit paid to a neighbour's barrier, with what the unit carries. -/
theorem wp_unit (c n : Dev nD) (s : Fin 22) (l : List (Fin 22)) (hn : n = peer s c) (hok : ok s c = true) (hs : s.val < 5)
    {sem : Sem sig} (hS : sem = barrier0) {w : ℕ} (hw : w = 1)
    {α : Type} {Q : α → sProp 𝕄} {k : PUnit → Prog (TpuEff nD τ sig (Elt F) Λ₀ .tc) α} :
    iprop(world X ∗ ptok c s ∗ owing c (s :: l) ∗ barPay (peer s c) (duty s))
      ⊢ iprop((owing c l -∗ WP c (k ⟨⟩) Q) -∗ WP c (.op (.semSignal (Dev.tc n : Thread nD τ) sem w) k) Q) := by
  subst hn hS hw
  have hk : key s = bar := if_pos hs
  unfold world ptok owing
  iintro ⟨⟨#HR, #HL⟩, Ht, ⟨%W, HO⟩, Hp⟩ Hk
  ihave Hc := (recs_at X (peer s c) (key s) (real_key s)) $$ HR
  icases Hc with ⟨⟨%κ, #HI⟩, #Hr⟩
  have hd := duty_mem s c hok
  rw [hk] at hd ⊢
  iapply (Rounds.wp_signal 𝒱₀ ER (rd X) (c : Thread nD τ) none (dst := (peer s c : Thread nD τ)) (κ := κ) (r := 0)
      (d := duty s) (by rw [duties_0]; exact hd) rfl () (owesL c l) ((owesL_cons c s l).trans (by rw [hk]; rfl))) $$ [HO Ht Hp]
  · isplitr; · iexact HI
    isplitl [HO]; · iexact HO
    isplitl [Ht]; · iexact Ht
    isplitl [Hp]; · iapply (Entails.of_eq (payload_bar X (peer s c) (duty s)).symm); iexact Hp
    iexact Hr
  iintro HO
  iapply Hk
  iexists W; iexact HO

/-- What the barrier's units bring a device. -/
def barGot (c : Dev nD) : sProp 𝕄 :=
  iprop((if nbr c 0 then barPay c 0 else emp) ∗ (if nbr c 1 then barPay c 1 else emp) ∗ (if nbr c 2 then barPay c 2 else emp)
    ∗ (if nbr c 3 then barPay c 3 else emp) ∗ (if nbr c 4 then barPay c 4 else emp))

theorem rest_bar (c : Dev nD) :
    bigSep ((rd X).duties (cell c bar) 0 \ ∅) (fun d => (rd X).payload (cell c bar) 0 d) ⊢ barGot (F := F) c := by
  rw [Finset.sdiff_empty, duties_0]
  show bigSep (Finset.univ.filter fun d => nbr c d = true) (fun d => barPay c d) ⊢ _
  rw [bigSep_filter, bigSep_univ_eq_bigSepL [0, 1, 2, 3, 4] (by decide) (by decide)]
  exact Entails.of_eq rfl

/-- The wait at the barrier. -/
theorem wp_barrier (c : Dev nD) (l : List (Fin 22)) (hl : ∀ s ∈ l, 1 < lvlOf (peer s c) (key s))
    {sem : Sem sig} (hs : sem = barrier0) {w : ℕ} (hw : w = barCount c)
    {α : Type} {Q : α → sProp 𝕄} {k : PUnit → Prog (TpuEff nD τ sig (Elt F) Λ₀ .tc) α} :
    iprop(world X ∗ (atPos ER (cell c bar) 0 ∅ 0 ∗ cred (tallyAt (cell c bar) () (barCount c))) ∗ owing c l)
      ⊢ iprop(((semVal (cell c bar) 0 ∗ barGot c ∗ owing c l) -∗ WP c (k ⟨⟩) Q)
          -∗ WP c (.op (.semWait sem w) k) Q) := by
  subst hs hw
  unfold world owing
  iintro ⟨⟨#HR, #HL⟩, ⟨Hat, Hcr⟩, ⟨%W, HO⟩⟩ Hk
  ihave Hc := (recs_at X c bar real_bar) $$ HR
  icases Hc with ⟨⟨%κ, #HI⟩, -⟩
  iapply (Rounds.wp_wait_rest_token 𝒱₀ ER (rd X) (c : Thread nD τ) none (κ := κ)
      (wpE_semWait_eq 𝒱₀ (c : Thread nD τ) none Set.univ) (Set.mem_univ _) () (O := owesL c l) (W := W) (R := 0) (m := 0) (T := ∅)
      (by rw [Nat.zero_add, expect_bar X c])) $$ [Hcr HO Hat]
  · isplitr; · iexact HI
    isplitl [Hcr]; · iexact Hcr
    isplitl [HO]; · iexact HO
    isplitr; · iapply (mayWait_of c bar l hl); iexact HL
    iexact Hat
  iintro ⟨HO, Hat, -, Hpay⟩
  imod (Rounds.cell_close ER (rd X) (Set.mem_univ κ) (fun h => h) (R := 0 + 1) (duties_later X (cell c bar))) $$ [Hat] with Hz
  · isplitr; · iexact HI
    iexact Hat
  iapply Hk
  isplitl [Hz]; · iexact Hz
  isplitl [Hpay]; · iapply (rest_bar X c); iexact Hpay
  iexists _; iexact HO

end Cert.AllReduce

end
-- ==== Proof.Moves.lean ====
/-
# The kernel's copies, loads and stores

The rules of `Steps` for the three kinds of copy the kernel makes -- rows to the same rows of a neighbour, source rows
into a landing slot, result rows into a landing slot -- and for its loads and stores, in terms of the elements held.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## Returning, and one program after another -/

theorem wp_done (c : Dev nD) {α : Type} (a : α) (Q : α → sProp 𝕄) : Q a ⊢ WP c (Prog.ret a) Q := by
  show Q a ⊢ iprop(|={Set.univ}=> Q a)
  iintro H; imodintro; iexact H

theorem wp_seq (c : Dev nD) {α β : Type} (p : Prog (TpuEff nD τ sig (Elt F) Λ₀ .tc) α)
    (k : α → Prog (TpuEff nD τ sig (Elt F) Λ₀ .tc) β) (Q : β → sProp 𝕄) :
    WP c (p >>= k) Q = WP c p (fun a => WP c (k a) Q) := wp_bind ..

/-! ## Elements held, as the memrefs see them -/

theorem oP_view {nr lo : ℕ} {off : Fin 2 → ℕ} (hoff : off = ![lo, 0]) (inb) (c : Dev nD) (q) (f : Blk F) :
    oP c (rows lo nr) q f
      = ((rowsM oM nr off inb).view.loc (c : Thread nD τ) ↦[(rowsM oM nr off inb).view.set]{q} f : sProp 𝕄) := by
  rw [oRows_set hoff inb]; rfl
theorem xP_view {nr lo : ℕ} {off : Fin 2 → ℕ} (hoff : off = ![lo, 0]) (inb) (c : Dev nD) (f : Blk F) :
    xP c (rows lo nr) f
      = ((rowsM xM nr off inb).view.loc (c : Thread nD τ) ↦[(rowsM xM nr off inb).view.set]{fullShare} f : sProp 𝕄) := by
  rw [xRows_set hoff inb]; rfl
theorem pP_view {s : ℕ} (inb) (c : Dev nD) (f : (cc0_scratch0 : Ref sig .tc).ty.Contents (Elt F)) :
    pP c s f
      = ((slotM ![s, 0, 0, 0] inb).view.loc (c : Thread nD τ) ↦[(slotM ![s, 0, 0, 0] inb).view.set]{fullShare} f : sProp 𝕄) := by
  rw [slotM_set inb]; rfl

/-! ## Copies -/

theorem amt_small (i : DmaSem sig) (h : i.val < 10) : amt (.dma i) = N1 := by unfold amt; dsimp only; exact if_pos h
theorem amt_large (i : DmaSem sig) (h : ¬ i.val < 10) : amt (.dma i) = N2 := by unfold amt; dsimp only; exact if_neg h
theorem pay_small (c : Dev nD) (i : DmaSem sig) (h : i.val < 10) (d : Fin 5) : pay X c (.dma i) d = yPay X c i.val := by
  unfold pay; dsimp only; exact if_pos h
theorem pay_large (c : Dev nD) (i : DmaSem sig) (h : ¬ i.val < 10) (d : Fin 5) : pay X c (.dma i) d = zPay X c i.val := by
  unfold pay; dsimp only; exact if_neg h

section Copies

variable (c n : Dev nD) (s : Fin 22) (i : DmaSem sig) (l : List (Fin 22)) (p : Dev nD) (hp : peer s c = p) (hn : n = p) (hok : ok s c = true)
  (h2 : 2 ≤ i.val) (hu : used c i.val = true) {sS sem : DmaSem sig} (hS : sS = i) (hk : (SemLoc.dma sem : SemLoc sig) = key s)

include hp hn hok h2 hu hS hk

/-- Rows of the result to the same rows of a neighbour's. -/
theorem wp_send_rows {nr lo : ℕ} {off : Fin 2 → ℕ} (hoff : off = ![lo, 0])
    {inb : ∀ a, off a + (![nr, 1024] : Fin 2 → ℕ) a ≤ S4096x1024.size a}
    (hN : (rowsM oM nr off inb).view.dmaCredit = amt (key s)) (hNi : amt (.dma i) = amt (key s)) (q : PosShare TreeShare) (g : Blk F)
    (hp₁ : oP c (rows lo nr) q g ⊢ pay X c (.dma i) 0)
    (hp₂ : oP p (rows lo nr) fullShare g ⊢ pay X p (key s) (duty s))
    {hsc : (rowsM oM nr off inb : Memref sig (Dev.tc n : Thread nD τ).2.kind .vmem ⟨2, ![nr, 1024]⟩ .f32).view.ref.isScScratch = false}
    {hsrc : (rowsM oM nr off inb).view.WordExact} {hdst : (rowsM oM nr off inb).view.WordExact}
    {hsem : DmaTarget.Typed .vmem (.dma sem) (.remote (Dev.tc n : Thread nD τ)
      (rowsM oM nr off inb : Memref sig (Dev.tc n : Thread nD τ).2.kind .vmem ⟨2, ![nr, 1024]⟩ .f32) (.dma sS) hsc)}
    {α : Type} {Q : α → sProp 𝕄} {k : PUnit → Prog (TpuEff nD τ sig (Elt F) Λ₀ .tc) α} :
    world X ⊢ iprop(snd c i -∗ ptok c s -∗ owing c (s :: l) -∗ oP c (rows lo nr) q g -∗ oH p (rows lo nr)
      -∗ ((rcv c i ∗ owing c l) -∗ WP c (k ⟨⟩) Q)
      -∗ WP c (.op (.enqueueDma (rowsM oM nr off inb) (.remote (Dev.tc n : Thread nD τ) (rowsM oM nr off inb) (.dma sS) hsc)
            (.dma sem) hsrc hdst hsem) k) Q) := by
  subst hp
  unfold oH
  iintro #HW Hs Ht HO Hsrc ⟨%fd, Hdst⟩ Hk
  iapply (wp_send X c n s i l hn hok h2 hu hS hk hN hNi g fd (q := q)
    (by rw [← oP_view hoff inb]; exact hp₁)
    (by
      rw [pointsTo_congr (landed_congr (g := g) (v := (rowsM oM nr off inb).view) (w := (rowsM oM nr off inb).view) fun j => rfl),
        ← oP_view hoff inb (peer s c) fullShare g]
      exact hp₂)) $$ [Hs Ht HO Hsrc Hdst] Hk
  isplitr; · iexact HW
  isplitl [Hs]; · iexact Hs
  isplitl [Ht]; · iexact Ht
  isplitl [HO]; · iexact HO
  isplitl [Hsrc]
  · iapply (Entails.of_eq (oP_view hoff inb _ _ _)); iexact Hsrc
  · iapply (Entails.of_eq (oP_view hoff inb _ _ _)); iexact Hdst

/-- The same for 256 rows, -/
theorem wp_send_half {lo : ℕ} {off : Fin 2 → ℕ} (hoff : off = ![lo, 0])
    {inb : ∀ a, off a + S256x1024.size a ≤ S4096x1024.size a} (hi : i.val < 10) (hj : sem.val < 10) (q : PosShare TreeShare) (g : Blk F)
    (hp₁ : oP c (rows lo 256) q g ⊢ yPay X c i.val) (hp₂ : oP p (rows lo 256) fullShare g ⊢ yPay X p sem.val)
    {hsc : (rowsM oM 256 off inb : Memref sig (Dev.tc n : Thread nD τ).2.kind .vmem ⟨2, ![256, 1024]⟩ .f32).view.ref.isScScratch = false}
    {hsrc : (rowsM oM 256 off inb).view.WordExact} {hdst : (rowsM oM 256 off inb).view.WordExact}
    {hsem : DmaTarget.Typed .vmem (.dma sem) (.remote (Dev.tc n : Thread nD τ)
      (rowsM oM 256 off inb : Memref sig (Dev.tc n : Thread nD τ).2.kind .vmem ⟨2, ![256, 1024]⟩ .f32) (.dma sS) hsc)}
    {α : Type} {Q : α → sProp 𝕄} {k : PUnit → Prog (TpuEff nD τ sig (Elt F) Λ₀ .tc) α} :
    world X ⊢ iprop(snd c i -∗ ptok c s -∗ owing c (s :: l) -∗ oP c (rows lo 256) q g -∗ oH p (rows lo 256)
      -∗ ((rcv c i ∗ owing c l) -∗ WP c (k ⟨⟩) Q)
      -∗ WP c (.op (.enqueueDma (rowsM oM 256 off inb) (.remote (Dev.tc n : Thread nD τ) (rowsM oM 256 off inb) (.dma sS) hsc)
            (.dma sem) hsrc hdst hsem) k) Q) := by
  have hNi : amt (.dma i) = amt (key s) := by rw [← hk, amt_small i hi, amt_small sem hj]
  have hN : (rowsM oM 256 off inb).view.dmaCredit = amt (key s) := by rw [← hk, amt_small sem hj]
  exact wp_send_rows X c n s i l p hp hn hok h2 hu hS hk hoff hN hNi q g (by rw [pay_small X c i hi]; exact hp₁)
    (by rw [← hk, pay_small X _ sem hj]; exact hp₂)

/-- and for 512. -/
theorem wp_send_whole {lo : ℕ} {off : Fin 2 → ℕ} (hoff : off = ![lo, 0])
    {inb : ∀ a, off a + S512x1024.size a ≤ S4096x1024.size a} (hi : ¬ i.val < 10) (hj : ¬ sem.val < 10) (q : PosShare TreeShare) (g : Blk F)
    (hp₁ : oP c (rows lo 512) q g ⊢ zPay X c i.val) (hp₂ : oP p (rows lo 512) fullShare g ⊢ zPay X p sem.val)
    {hsc : (rowsM oM 512 off inb : Memref sig (Dev.tc n : Thread nD τ).2.kind .vmem ⟨2, ![512, 1024]⟩ .f32).view.ref.isScScratch = false}
    {hsrc : (rowsM oM 512 off inb).view.WordExact} {hdst : (rowsM oM 512 off inb).view.WordExact}
    {hsem : DmaTarget.Typed .vmem (.dma sem) (.remote (Dev.tc n : Thread nD τ)
      (rowsM oM 512 off inb : Memref sig (Dev.tc n : Thread nD τ).2.kind .vmem ⟨2, ![512, 1024]⟩ .f32) (.dma sS) hsc)}
    {α : Type} {Q : α → sProp 𝕄} {k : PUnit → Prog (TpuEff nD τ sig (Elt F) Λ₀ .tc) α} :
    world X ⊢ iprop(snd c i -∗ ptok c s -∗ owing c (s :: l) -∗ oP c (rows lo 512) q g -∗ oH p (rows lo 512)
      -∗ ((rcv c i ∗ owing c l) -∗ WP c (k ⟨⟩) Q)
      -∗ WP c (.op (.enqueueDma (rowsM oM 512 off inb) (.remote (Dev.tc n : Thread nD τ) (rowsM oM 512 off inb) (.dma sS) hsc)
            (.dma sem) hsrc hdst hsem) k) Q) := by
  have hNi : amt (.dma i) = amt (key s) := by rw [← hk, amt_large i hi, amt_large sem hj]
  have hN : (rowsM oM 512 off inb).view.dmaCredit = amt (key s) := by rw [← hk, amt_large sem hj]
  exact wp_send_rows X c n s i l p hp hn hok h2 hu hS hk hoff hN hNi q g (by rw [pay_large X c i hi]; exact hp₁)
    (by rw [← hk, pay_large X _ sem hj]; exact hp₂)

/-- Rows of the source into a neighbour's landing slot. -/
theorem wp_send_x {lo t : ℕ} {off : Fin 2 → ℕ} (hoff : off = ![lo, 0])
    {inb : ∀ a, off a + (![256, 1024] : Fin 2 → ℕ) a ≤ S4096x1024.size a}
    {inb' : ∀ a, (![t, 0, 0, 0] : Fin 4 → ℕ) a + S1x1x256x1024.size a ≤ S3x1x256x1024.size a}
    (hi : i.val < 10) (hj : sem.val < 10)
    (hp₁ : xP c (rows lo 256) (X c) ⊢ yPay X c i.val)
    (hp₂ : pP p t (fromRows (X c) lo) ⊢ yPay X p sem.val)
    {hsc : (slotM ![t, 0, 0, 0] inb' : Memref sig (Dev.tc n : Thread nD τ).2.kind .vmem S256x1024 .f32).view.ref.isScScratch = false}
    {hsrc : (rowsM xM 256 off inb).view.WordExact} {hdst : (slotM ![t, 0, 0, 0] inb').view.WordExact}
    {hsem : DmaTarget.Typed .vmem (.dma sem) (.remote (Dev.tc n : Thread nD τ)
      (slotM ![t, 0, 0, 0] inb' : Memref sig (Dev.tc n : Thread nD τ).2.kind .vmem S256x1024 .f32) (.dma sS) hsc)}
    {α : Type} {Q : α → sProp 𝕄} {k : PUnit → Prog (TpuEff nD τ sig (Elt F) Λ₀ .tc) α} :
    world X ⊢ iprop(snd c i -∗ ptok c s -∗ owing c (s :: l) -∗ xP c (rows lo 256) (X c) -∗ pH p t
      -∗ ((rcv c i ∗ owing c l) -∗ WP c (k ⟨⟩) Q)
      -∗ WP c (.op (.enqueueDma (rowsM xM 256 off inb) (.remote (Dev.tc n : Thread nD τ) (slotM ![t, 0, 0, 0] inb') (.dma sS) hsc)
            (.dma sem) hsrc hdst hsem) k) Q) := by
  subst hp
  have hNi : amt (.dma i) = amt (key s) := by rw [← hk, amt_small i hi, amt_small sem hj]
  have hN : (slotM ![t, 0, 0, 0] inb').view.dmaCredit = amt (key s) := by rw [← hk, amt_small sem hj]
  unfold pH
  iintro #HW Hs Ht HO Hsrc ⟨%fd, Hdst⟩ Hk
  iapply (wp_send X c n s i l hn hok h2 hu hS hk (src := rowsM xM 256 off inb) (dst := slotM ![t, 0, 0, 0] inb') hN hNi (X c) fd (q := fullShare)
    (by rw [← xP_view hoff inb]; rw [pay_small X c i hi]; exact hp₁)
    (by
      rw [pointsTo_congr (landed_congr (g := fromRows (X c) lo) fun j =>
          (read_slot inb' _ j).trans ((fromRows_sx (X c) lo t j).trans (read_xRows hoff inb (X c) j).symm)),
        ← pP_view inb' (peer s c)]
      rw [← hk, pay_small X _ sem hj]; exact hp₂)) $$ [Hs Ht HO Hsrc Hdst] Hk
  isplitr; · iexact HW
  isplitl [Hs]; · iexact Hs
  isplitl [Ht]; · iexact Ht
  isplitl [HO]; · iexact HO
  isplitl [Hsrc]
  · iapply (Entails.of_eq (xP_view hoff inb _ _)); iexact Hsrc
  · iapply (Entails.of_eq (pP_view inb' _ _)); iexact Hdst

/-- Rows of the result into a neighbour's landing slot; the rows themselves go with it. -/
theorem wp_send_part {lo t : ℕ} {off : Fin 2 → ℕ} (hoff : off = ![lo, 0])
    {inb : ∀ a, off a + (![256, 1024] : Fin 2 → ℕ) a ≤ S4096x1024.size a}
    {inb' : ∀ a, (![t, 0, 0, 0] : Fin 4 → ℕ) a + S1x1x256x1024.size a ≤ S3x1x256x1024.size a}
    (hi : i.val < 10) (hj : sem.val < 10) (g : Blk F)
    (hp₁ : (emp : sProp 𝕄) ⊢ yPay X c i.val)
    (hp₂ : iprop(pP p t (fromRows g lo) ∗ oP c (rows lo 256) fullShare g) ⊢ yPay X p sem.val)
    {hsc : (slotM ![t, 0, 0, 0] inb' : Memref sig (Dev.tc n : Thread nD τ).2.kind .vmem S256x1024 .f32).view.ref.isScScratch = false}
    {hsrc : (rowsM oM 256 off inb).view.WordExact} {hdst : (slotM ![t, 0, 0, 0] inb').view.WordExact}
    {hsem : DmaTarget.Typed .vmem (.dma sem) (.remote (Dev.tc n : Thread nD τ)
      (slotM ![t, 0, 0, 0] inb' : Memref sig (Dev.tc n : Thread nD τ).2.kind .vmem S256x1024 .f32) (.dma sS) hsc)}
    {α : Type} {Q : α → sProp 𝕄} {k : PUnit → Prog (TpuEff nD τ sig (Elt F) Λ₀ .tc) α} :
    world X ⊢ iprop(snd c i -∗ ptok c s -∗ owing c (s :: l) -∗ oP c (rows lo 256) fullShare g -∗ pH p t
      -∗ ((rcv c i ∗ owing c l) -∗ WP c (k ⟨⟩) Q)
      -∗ WP c (.op (.enqueueDma (rowsM oM 256 off inb) (.remote (Dev.tc n : Thread nD τ) (slotM ![t, 0, 0, 0] inb') (.dma sS) hsc)
            (.dma sem) hsrc hdst hsem) k) Q) := by
  subst hp
  have hNi : amt (.dma i) = amt (key s) := by rw [← hk, amt_small i hi, amt_small sem hj]
  have hN : (slotM ![t, 0, 0, 0] inb').view.dmaCredit = amt (key s) := by rw [← hk, amt_small sem hj]
  unfold pH
  iintro #HW Hs Ht HO Hsrc ⟨%fd, Hdst⟩ Hk
  iapply (wp_send_over X c n s i l hn hok h2 hu hS hk (src := rowsM oM 256 off inb) (dst := slotM ![t, 0, 0, 0] inb') hN hNi g fd (q := fullShare)
    (by rw [pay_small X c i hi]; exact hp₁)
    (by
      rw [pointsTo_congr (landed_congr (g := fromRows g lo) fun j =>
          (read_slot inb' _ j).trans ((fromRows_sx g lo t j).trans (read_oRows hoff inb g j).symm)),
        ← pP_view inb' (peer s c), ← oP_view hoff inb]
      rw [← hk, pay_small X _ sem hj]; exact hp₂)) $$ [Hs Ht HO Hsrc Hdst] Hk
  isplitr; · iexact HW
  isplitl [Hs]; · iexact Hs
  isplitl [Ht]; · iexact Ht
  isplitl [HO]; · iexact HO
  isplitl [Hsrc]
  · iapply (Entails.of_eq (oP_view hoff inb _ _ _)); iexact Hsrc
  · iapply (Entails.of_eq (pP_view inb' _ _)); iexact Hdst

end Copies

/-- `wp_wait`, its premises one after the other. -/
theorem wp_take (c : Dev nD) (i : DmaSem sig) (l : List (Fin 22)) (h2 : 2 ≤ i.val) (hu : used c i.val = true)
    (hl : ∀ s ∈ l, lvlOf c (.dma i) < lvlOf (peer s c) (key s))
    {P : sProp 𝕄} (hP : pay X c (.dma i) 0 ⊢ P)
    {sem : DmaSem sig} (hs : sem = i) {s s' : Shape} {src : Memref sig .tc .vmem s .f32} {dst : Memref sig .tc .vmem s' .f32}
    {hsrc : src.view.WordExact} {hdst : dst.view.WordExact} (hN : dst.view.dmaCredit = amt (.dma i))
    {α : Type} {Q : α → sProp 𝕄} {k : PUnit → Prog (TpuEff nD τ sig (Elt F) Λ₀ .tc) α} :
    world X ⊢ iprop(rcv c i -∗ owing c l -∗ ((zero c i ∗ P ∗ owing c l) -∗ WP c (k ⟨⟩) Q)
          -∗ WP c (.op (.waitDma2 sem src dst hsrc hdst) k) Q) := by
  iintro #HW Hr HO Hk
  iapply (wp_wait X c i l h2 hu hl hs hN) $$ [Hr HO]
  · isplitr; · iexact HW
    isplitl [Hr]; · iexact Hr
    iexact HO
  iintro ⟨Hz, Hp, HO⟩
  iapply Hk
  isplitl [Hz]; · iexact Hz
  isplitl [Hp]; · iapply hP; iexact Hp
  iexact HO

section Take

variable (c : Dev nD) (i : DmaSem sig) (l : List (Fin 22)) (h2 : 2 ≤ i.val) (hu : used c i.val = true)
  (hl : ∀ s ∈ l, lvlOf c (.dma i) < lvlOf (peer s c) (key s))
include h2 hu hl

/-- A wait for 256 rows, -/
theorem wp_take_rows {P : sProp 𝕄} (hP : yPay X c i.val ⊢ P) {sem : DmaSem sig} (hs : sem = i)
    (b : Memref sig .tc .vmem S4096x1024 .f32) (hb : b = oM ∨ b = xM) (hi : i.val < 10) {s : Shape} {src : Memref sig .tc .vmem s .f32}
    {off : Fin 2 → ℕ} {inb : ∀ a, off a + S256x1024.size a ≤ S4096x1024.size a}
    {hsrc : src.view.WordExact} {hdst : (rowsM b 256 off inb).view.WordExact}
    {α : Type} {Q : α → sProp 𝕄} {k : PUnit → Prog (TpuEff nD τ sig (Elt F) Λ₀ .tc) α} :
    world X ⊢ iprop(rcv c i -∗ owing c l -∗ ((zero c i ∗ P ∗ owing c l) -∗ WP c (k ⟨⟩) Q)
          -∗ WP c (.op (.waitDma2 sem src (rowsM b 256 off inb) hsrc hdst) k) Q) := by
  have hN : (rowsM b 256 off inb).view.dmaCredit = amt (.dma i) := by
    rcases hb with rfl | rfl <;> rw [amt_small i hi]
  exact wp_take X c i l h2 hu hl (by rw [pay_small X c i hi]; exact hP) hs hN

/-- for a landing slot, -/
theorem wp_take_slot {P : sProp 𝕄} (hP : yPay X c i.val ⊢ P) {sem : DmaSem sig} (hs : sem = i)
    (hi : i.val < 10) {s : Shape} {src : Memref sig .tc .vmem s .f32} {off : Fin 4 → ℕ}
    {inb : ∀ a, off a + S1x1x256x1024.size a ≤ S3x1x256x1024.size a}
    {hsrc : src.view.WordExact} {hdst : (slotM off inb).view.WordExact}
    {α : Type} {Q : α → sProp 𝕄} {k : PUnit → Prog (TpuEff nD τ sig (Elt F) Λ₀ .tc) α} :
    world X ⊢ iprop(rcv c i -∗ owing c l -∗ ((zero c i ∗ P ∗ owing c l) -∗ WP c (k ⟨⟩) Q)
          -∗ WP c (.op (.waitDma2 sem src (slotM off inb) hsrc hdst) k) Q) := by
  have hN : (slotM off inb).view.dmaCredit = amt (.dma i) := by rw [amt_small i hi]
  exact wp_take X c i l h2 hu hl (by rw [pay_small X c i hi]; exact hP) hs hN

/-- and for 512 rows. -/
theorem wp_take_part {P : sProp 𝕄} (hP : zPay X c i.val ⊢ P) {sem : DmaSem sig} (hs : sem = i)
    (hi : ¬ i.val < 10) {s : Shape} {src : Memref sig .tc .vmem s .f32}
    {off : Fin 2 → ℕ} {inb : ∀ a, off a + (![512, 1024] : Fin 2 → ℕ) a ≤ S4096x1024.size a}
    {hsrc : src.view.WordExact} {hdst : (rowsM oM 512 off inb).view.WordExact}
    {α : Type} {Q : α → sProp 𝕄} {k : PUnit → Prog (TpuEff nD τ sig (Elt F) Λ₀ .tc) α} :
    world X ⊢ iprop(rcv c i -∗ owing c l -∗ ((zero c i ∗ P ∗ owing c l) -∗ WP c (k ⟨⟩) Q)
          -∗ WP c (.op (.waitDma2 sem src (rowsM oM 512 off inb) hsrc hdst) k) Q) := by
  have hN : (rowsM oM 512 off inb).view.dmaCredit = amt (.dma i) := by rw [amt_large i hi]
  exact wp_take X c i l h2 hu hl (by rw [pay_large X c i hi]; exact hP) hs hN

end Take

/-! ## Loads and stores -/

abbrev rowR (off : Fin 2 → ℕ) (inb : ∀ a, off a + S256x1024.size a ≤ S4096x1024.size a) : Rect S4096x1024 :=
  Rect.unit (s := S4096x1024) off S256x1024.size inb
abbrev slotR (off : Fin 4 → ℕ) (inb : ∀ a, off a + S1x1x256x1024.size a ≤ S3x1x256x1024.size a) : Rect S3x1x256x1024 :=
  Rect.unit (s := S3x1x256x1024) off S1x1x256x1024.size inb

/-- 256 rows of a block from row `lo`, as a vector. -/
def rowsOf (f : Blk F) (lo : ℕ) : Vec F S256x1024 .f32 := fun j => f (ix (lo + (j 0).val) (j 1).val)
/-- A slot of the landing buffer, as a vector. -/
def slotOf (f : (cc0_scratch0 : Ref sig .tc).ty.Contents (Elt F)) (s : ℕ) : Vec F S1x1x256x1024 .f32 :=
  fun j => f (sx s (j 2).val (j 3).val)

section Mem

variable (c : Dev nD) {lo : ℕ} {off : Fin 2 → ℕ} (hoff : off = ![lo, 0]) {inb : ∀ a, off a + S256x1024.size a ≤ S4096x1024.size a}
include hoff

theorem wp_load_x (f : Blk F) {hl : (xM : Memref sig .tc .vmem S4096x1024 .f32).view.LoadsAt (rowR off inb).toLoadRect}
    {α : Type} {Q : α → sProp 𝕄} {k : Vec F S256x1024 .f32 → Prog (TpuEff nD τ sig (Elt F) Λ₀ .tc) α} :
    xP c (rows lo 256) f ⊢ iprop((xP c (rows lo 256) f -∗ WP c (k (rowsOf f lo)) Q)
      -∗ WP c (.op (.load xM (rowR off inb).toLoadRect hl) k) Q) := by
  have e : (xM : Memref sig .tc .vmem S4096x1024 .f32).view.readAt (Elt F) (rowR off inb).toLoadRect f = rowsOf f lo :=
    funext fun j => read_xRows hoff inb f j
  rw [← e]
  unfold xP
  exact wp_load_rect 𝒱₀ (c : Thread nD τ) none Set.univ (m := xM) (r := rowR off inb) (f := f)
    (by rw [show ((xM : Memref sig .tc .vmem S4096x1024 .f32).access (rowR off inb)).set = rows lo 256 from xRows_set hoff inb])

theorem wp_load_o (q) (f : Blk F) {hl : (oM : Memref sig .tc .vmem S4096x1024 .f32).view.LoadsAt (rowR off inb).toLoadRect}
    {α : Type} {Q : α → sProp 𝕄} {k : Vec F S256x1024 .f32 → Prog (TpuEff nD τ sig (Elt F) Λ₀ .tc) α} :
    oP c (rows lo 256) q f ⊢ iprop((oP c (rows lo 256) q f -∗ WP c (k (rowsOf f lo)) Q)
      -∗ WP c (.op (.load oM (rowR off inb).toLoadRect hl) k) Q) := by
  have e : (oM : Memref sig .tc .vmem S4096x1024 .f32).view.readAt (Elt F) (rowR off inb).toLoadRect f = rowsOf f lo :=
    funext fun j => read_oRows hoff inb f j
  rw [← e]
  unfold oP
  exact wp_load_rect 𝒱₀ (c : Thread nD τ) none Set.univ (m := oM) (r := rowR off inb) (f := f)
    (by rw [show ((oM : Memref sig .tc .vmem S4096x1024 .f32).access (rowR off inb)).set = rows lo 256 from oRows_set hoff inb])

theorem wp_store_o (f g : Blk F) {w : Vec F S256x1024 .f32} (hw : w = rowsOf g lo)
    {hx : ((oM : Memref sig .tc .vmem S4096x1024 .f32).access (rowR off inb)).Stores Finset.univ}
    {hm : (Finset.univ : Finset (rowR off inb).shape.Idx) = Finset.univ ∨ ∀ a, (rowR off inb).stride a = 1}
    {α : Type} {Q : α → sProp 𝕄} {k : PUnit → Prog (TpuEff nD τ sig (Elt F) Λ₀ .tc) α} :
    oP c (rows lo 256) fullShare f ⊢ iprop((oP c (rows lo 256) fullShare g -∗ WP c (k ⟨⟩) Q)
      -∗ WP c (.op (.store oM (rowR off inb) w Finset.univ hx hm) k) Q) := by
  have hs : ((oM : Memref sig .tc .vmem S4096x1024 .f32).access (rowR off inb)).set = rows lo 256 := oRows_set hoff inb
  have e : oP c (rows lo 256) fullShare g
      = (((c : Thread nD τ).loc cc0_stg1_0) ↦[rows lo 256]{fullShare}
          (((oM : Memref sig .tc .vmem S4096x1024 .f32).access (rowR off inb)).write (Elt F) f w Finset.univ) : sProp 𝕄) := by
    unfold oP
    refine (pointsTo_congr fun i hi => ?_).symm
    have hr : w = ((oM : Memref sig .tc .vmem S4096x1024 .f32).access (rowR off inb)).read (Elt F) g := by
      rw [hw]; exact (funext fun j => read_oRows hoff inb g j).symm
    rw [hr, View.write_read_eq_piecewise]
    exact Finset.piecewise_eq_of_mem _ _ _ (by rw [View.setOn_univ, hs]; exact hi)
  rw [e]
  unfold oP
  exact wp_store 𝒱₀ (c : Thread nD τ) none Set.univ (m := oM) (r := rowR off inb) (Mk := Finset.univ) (f := f)
    (by rw [View.setOn_univ, hs])

omit hoff in
theorem wp_load_p {s : ℕ} {inb' : ∀ a, (![s, 0, 0, 0] : Fin 4 → ℕ) a + S1x1x256x1024.size a ≤ S3x1x256x1024.size a}
    (f : (cc0_scratch0 : Ref sig .tc).ty.Contents (Elt F))
    {hl : (pM : Memref sig .tc .vmem S3x1x256x1024 .f32).view.LoadsAt (slotR ![s, 0, 0, 0] inb').toLoadRect}
    {α : Type} {Q : α → sProp 𝕄} {k : Vec F S1x1x256x1024 .f32 → Prog (TpuEff nD τ sig (Elt F) Λ₀ .tc) α} :
    pP c s f ⊢ iprop((pP c s f -∗ WP c (k (slotOf f s)) Q)
      -∗ WP c (.op (.load pM (slotR ![s, 0, 0, 0] inb').toLoadRect hl) k) Q) := by
  have e : (pM : Memref sig .tc .vmem S3x1x256x1024 .f32).view.readAt (Elt F) (slotR ![s, 0, 0, 0] inb').toLoadRect f = slotOf f s :=
    funext fun j => load_slot inb' f j
  rw [← e]
  unfold pP
  exact wp_load_rect 𝒱₀ (c : Thread nD τ) none Set.univ (m := pM) (r := slotR ![s, 0, 0, 0] inb') (f := f)
    (by rw [show ((pM : Memref sig .tc .vmem S3x1x256x1024 .f32).access (slotR ![s, 0, 0, 0] inb')).set = slot s from
          (View.set_slice_whole cc0_scratch0 _).trans (pSlot_rect_set inb')])

end Mem

end Cert.AllReduce

end
-- ==== Proof.Outer.lean ====
/-
# The copies along `y`, at an outer device

An outer device of a column sends both halves of its source to its middle neighbour and receives both halves of the
result from it. The devices at the two ends run the same program up to the offsets of the halves.
-/
module

public import proofs.«01_k».proof.Proof.Moves

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## What the semaphores of the copies along `y` carry, one at a time -/

section Pay
variable (c : Dev nD)

theorem yPay_2_mid (h : mid c = true) : yPay X c 2 = iprop(emp) := by simp [yPay, h]
theorem yPay_2_end (h : mid c = false) : yPay X c 2 = xP c (rows (near c) 256) (X c) := by simp [yPay, h]
theorem yPay_3_mid (h : mid c = true) : yPay X c 3 = oP c (rows (near c) 256) fullShare.left (total X) := by simp [yPay, h]
theorem yPay_3_end (h : mid c = false) : yPay X c 3 = xP c (rows (far c) 256) (X c) := by simp [yPay, h]
theorem yPay_4 : yPay X c 4 = oP c (rows (near c) 256) fullShare.right (total X) := by simp [yPay]
theorem yPay_5 : yPay X c 5 = oP c (rows (far c) 256) fullShare (total X) := by simp [yPay]
theorem yPay_6_mid (h : mid c = true) : yPay X c 6 = pP c 0 (fromRows (X (ypair c)) (near c)) := by simp [yPay, h]
theorem yPay_6_end (h : mid c = false) : yPay X c 6 = oP c (rows (near c) 256) fullShare (total X) := by simp [yPay, h]
theorem yPay_7_mid (h : mid c = true) :
    yPay X c 7 = iprop(pP c 1 (fromRows (part X (ymir c)) (near c)) ∗ oH (ymir c) (rows (near c) 256)) := by simp [yPay, h]
theorem yPay_7_end (h : mid c = false) : yPay X c 7 = oP c (rows (far c) 256) fullShare (total X) := by simp [yPay, h]
theorem yPay_8 : yPay X c 8 = pP c 2 (fromRows (X (ypair c)) (far c)) := by simp [yPay]
theorem yPay_9 : yPay X c 9 = oP c (rows (far c) 256) fullShare (total X) := by simp [yPay]

theorem ypair_ypair : ∀ c : Dev nD, ypair (ypair c) = c := by decide +kernel
theorem ymir_ymir : ∀ c : Dev nD, ymir (ymir c) = c := by decide +kernel
theorem mid_ypair : ∀ c : Dev nD, mid (ypair c) = !mid c := by decide +kernel
theorem mid_ymir : ∀ c : Dev nD, mid (ymir c) = mid c := by decide +kernel
theorem near_ypair : ∀ c : Dev nD, near (ypair c) = near c := by decide +kernel
theorem far_ypair : ∀ c : Dev nD, far (ypair c) = far c := by decide +kernel
theorem near_ymir : ∀ c : Dev nD, near (ymir c) = far c := by decide +kernel
theorem far_ymir : ∀ c : Dev nD, far (ymir c) = near c := by decide +kernel

theorem used_y (i : ℕ) (h2 : 2 ≤ i) (h : i < 4 ∨ 6 ≤ i ∧ i < 8) : used c i = true := by
  rcases h with h | ⟨h6, h8⟩
  · unfold used; rw [if_neg (by omega), if_pos (by omega)]
  · unfold used; rw [if_neg (by omega), if_neg (by omega), if_neg (by omega), if_pos (by omega)]
theorem used_mid (hm : mid c = true) (i : ℕ) (h2 : 2 ≤ i) (h : i < 10) : used c i = true := by
  unfold used; rw [if_neg (by omega)]; simp only [hm]; (repeat' split) <;> first | rfl | omega

end Pay

/-! ## The program -/

section Prog
variable (offN offF : Fin 2 → ℕ) (inbN : ∀ a, offN a + S256x1024.size a ≤ S4096x1024.size a)
  (inbF : ∀ a, offF a + S256x1024.size a ≤ S4096x1024.size a) (n₁ n₂ : Dev nD)

def outerProg : Prog (TpuEff nD τ sig (Elt F) Λ₀ .tc) PUnit := do
  Prog.lift (.enqueueDma (rowsM xM 256 offF inbF) (.remote (Dev.tc n₁) (slotM ![2, 0, 0, 0] inb_S3x1x256x1024_S1x1x256x1024_2_0_0_0) (.dma d3))
    (.dma d8) (View.wordExact_bits rfl) ((View.wordExact_bits rfl).reshape _ _) ⟨⟨rfl, Or.inl rfl⟩, trivial⟩)
  Prog.lift (.enqueueDma (rowsM xM 256 offN inbN) (.remote (Dev.tc n₂) (slotM ![0, 0, 0, 0] inb_S3x1x256x1024_S1x1x256x1024_0_0_0_0) (.dma d2))
    (.dma d6) (View.wordExact_bits rfl) ((View.wordExact_bits rfl).reshape _ _) ⟨⟨rfl, Or.inl rfl⟩, trivial⟩)
  Prog.lift (.waitDma2 d6 (rowsM oM 256 offN inbN) (rowsM oM 256 offN inbN) (View.wordExact_bits rfl) (View.wordExact_bits rfl))
  Prog.lift (.waitDma2 d7 (rowsM oM 256 offF inbF) (rowsM oM 256 offF inbF) (View.wordExact_bits rfl) (View.wordExact_bits rfl))
  Prog.lift (.waitDma2 d3 (slotM ![2, 0, 0, 0] inb_S3x1x256x1024_S1x1x256x1024_2_0_0_0) (rowsM xM 256 offF inbF)
    ((View.wordExact_bits rfl).reshape _ _) (View.wordExact_bits rfl))
  Prog.lift (.waitDma2 d2 (slotM ![0, 0, 0, 0] inb_S3x1x256x1024_S1x1x256x1024_0_0_0_0) (rowsM xM 256 offN inbN)
    ((View.wordExact_bits rfl).reshape _ _) (View.wordExact_bits rfl))
  pure ⟨⟩

/-- What an outer device starts the copies along `y` with, -/
def outerPre (c : Dev nD) (l : List (Fin 22)) : sProp 𝕄 :=
  iprop(snd c d2 ∗ snd c d3 ∗ rcv c d6 ∗ rcv c d7 ∗ ptok c 8 ∗ ptok c 5
    ∗ xP c (rows (near c) 256) (X c) ∗ xP c (rows (far c) 256) (X c) ∗ pH (ypair c) 2 ∗ pH (ypair c) 0 ∗ owing c (8 :: 5 :: l))
/-- and ends with. -/
def outerPost (c : Dev nD) (l : List (Fin 22)) : sProp 𝕄 :=
  iprop(zero c d2 ∗ zero c d3 ∗ zero c d6 ∗ zero c d7
    ∗ xP c (rows (near c) 256) (X c) ∗ xP c (rows (far c) 256) (X c)
    ∗ oP c (rows (near c) 256) fullShare (total X) ∗ oP c (rows (far c) 256) fullShare (total X) ∗ owing c l)

theorem lvl_outer (c : Dev nD) (hm : mid c = false) : lvlOf c (.dma d6) = 4 ∧ lvlOf c (.dma d7) = 5 := by
  revert c; decide +kernel

/-- An outer device's copies along `y` leave it the sum on its own part. -/
theorem wp_outer (c : Dev nD) (l : List (Fin 22)) (hm : mid c = false) (hN : offN = ![near c, 0]) (hF : offF = ![far c, 0])
    (h₁ : n₁ = ypair c) (h₂ : n₂ = ypair c) (hl : ∀ s ∈ l, 5 < lvlOf (peer s c) (key s)) (Q : PUnit → sProp 𝕄) :
    world X ⊢ iprop(outerPre X c l -∗ (outerPost X c l -∗ Q ⟨⟩) -∗ WP c (outerProg offN offF inbN inbF n₁ n₂) Q) := by
  have hmp : mid (ypair c) = true := by rw [mid_ypair, hm]; rfl
  unfold outerPre outerPost outerProg
  simp only [Prog.lift, Prog.bind_op, Prog.bind_ret, Prog.pure_eq_ret, Prog.bind_assoc]
  iintro #HW ⟨Hs2, Hs3, Hr6, Hr7, Ht8, Ht5, HxN, HxF, Hp2, Hp0, HO⟩ Hk
  iapply (wp_send_x X c n₁ 8 d3 (5 :: l) (ypair c) rfl h₁ (by show (!mid c) = true; rw [hm]; rfl) (by decide) (used_y c 3 (by decide) (by decide)) rfl rfl hF (by decide) (by decide)
    (Entails.of_eq (yPay_3_end X c hm).symm)
    (Entails.of_eq (by rw [yPay_8, ypair_ypair, far_ypair]))) $$ HW Hs3 Ht8 HO HxF Hp2
  iintro ⟨Hr3, HO⟩
  iapply (wp_send_x X c n₂ 5 d2 l (ypair c) rfl h₂ rfl (by decide) (used_y c 2 (by decide) (by decide)) rfl rfl hN (by decide) (by decide)
    (Entails.of_eq (yPay_2_end X c hm).symm)
    (Entails.of_eq (by rw [yPay_6_mid X _ hmp, ypair_ypair, near_ypair]))) $$ HW Hs2 Ht5 HO HxN Hp0
  iintro ⟨Hr2, HO⟩
  iapply (wp_take_rows X c d6 l (by decide) (used_y c 6 (by decide) (by decide))
    (fun s hs => by rw [(lvl_outer c hm).1]; have := hl s hs; omega) (Entails.of_eq (yPay_6_end X c hm)) rfl oM (.inl rfl) (by decide)) $$ HW Hr6 HO
  iintro ⟨Hz6, HoN, HO⟩
  iapply (wp_take_rows X c d7 l (by decide) (used_y c 7 (by decide) (by decide))
    (fun s hs => by rw [(lvl_outer c hm).2]; exact hl s hs) (Entails.of_eq (yPay_7_end X c hm)) rfl oM (.inl rfl) (by decide)) $$ HW Hr7 HO
  iintro ⟨Hz7, HoF, HO⟩
  iapply (wp_take_rows X c d3 l (by decide) (used_y c 3 (by decide) (by decide))
    (fun s _ => lvl_pos c s) (Entails.of_eq (yPay_3_end X c hm)) rfl xM (.inr rfl) (by decide)) $$ HW Hr3 HO
  iintro ⟨Hz3, HxF, HO⟩
  iapply (wp_take_rows X c d2 l (by decide) (used_y c 2 (by decide) (by decide))
    (fun s _ => lvl_pos c s) (Entails.of_eq (yPay_2_end X c hm)) rfl xM (.inr rfl) (by decide)) $$ HW Hr2 HO
  iintro ⟨Hz2, HxN, HO⟩
  iapply (wp_done c)
  iapply Hk
  iframe

end Prog

end Cert.AllReduce

end
-- ==== Proof.Middle.lean ====
/-
# The copies along `y`, at a middle device

A middle device of a column adds its outer neighbour's rows to its own on the far half, passes that sum to the other
middle device, completes the sum on the near half, and spreads both halves of the result. The two middle devices run
the same program up to the offsets of the halves.
-/
module

public import proofs.«01_k».proof.Proof.Outer

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## The two sums -/

/-- On any rows, a device's source and its outer neighbour's rows landed in a slot add to the device's pair sum. -/
theorem pay1_part (c : Dev nD) (lo t : ℕ) :
    k0_pay1 (rowsOf (X c) lo) (slotOf (fromRows (X (ypair c)) lo) t) = rowsOf (part X c) lo := by
  funext j
  rw [pay1_apply]
  show add2 (rowsOf (X c) lo j) (fromRows (X (ypair c)) lo (sx t (j 0).val (j 1).val)) = _
  rw [fromRows_sx]; rfl

/-- On its near rows a middle device's pair sum and the other middle device's add to the result. -/
theorem pay2_total (c : Dev nD) (hm : mid c = true) :
    k0_pay2 (rowsOf (X c) (near c)) (slotOf (fromRows (X (ypair c)) (near c)) 0) (slotOf (fromRows (part X (ymir c)) (near c)) 1)
      = rowsOf (total X) (near c) := by
  funext j
  rw [pay2_apply]
  show add2 (add2 (rowsOf (X c) (near c) j) (fromRows (X (ypair c)) (near c) (sx 0 (j 0).val (j 1).val)))
    (fromRows (part X (ymir c)) (near c) (sx 1 (j 0).val (j 1).val)) = total X (ix (near c + (j 0).val) (j 1).val)
  rw [fromRows_sx, fromRows_sx, total_near X c hm _ _ (j 0).isLt]; rfl

/-! ## The program -/

section Prog
variable (offN offF sndN sndF : Fin 2 → ℕ) (inbN : ∀ a, offN a + S256x1024.size a ≤ S4096x1024.size a)
  (inbF : ∀ a, offF a + S256x1024.size a ≤ S4096x1024.size a) (snbN : ∀ a, sndN a + S256x1024.size a ≤ S4096x1024.size a)
  (snbF : ∀ a, sndF a + S256x1024.size a ≤ S4096x1024.size a) (n₁ n₂ n₃ n₄ : Dev nD)

/-- The sends and waits of a middle device, by their length of one half. -/
def middleProg : Prog (TpuEff nD τ sig (Elt F) Λ₀ .tc) PUnit := do
  Prog.lift (.waitDma2 d8 (slotM ![2, 0, 0, 0] inb_S3x1x256x1024_S1x1x256x1024_2_0_0_0) (slotM ![2, 0, 0, 0] inb_S3x1x256x1024_S1x1x256x1024_2_0_0_0)
    ((View.wordExact_bits rfl).reshape _ _) ((View.wordExact_bits rfl).reshape _ _))
  let a : Vec F S256x1024 .f32 ← Prog.lift (.load xM (rowR offF inbF).toLoadRect (View.loadsAt_vmem h_S256x1024))
  let b : Vec F S1x1x256x1024 .f32 ← Prog.lift (.load pM (slotR ![2, 0, 0, 0] inb_S3x1x256x1024_S1x1x256x1024_2_0_0_0).toLoadRect (View.loadsAt_vmem h_S1x1x256x1024))
  let _ : Vec F S256x1024 .f32 ← Prog.lift (.load oM (rowR offF inbF).toLoadRect (View.loadsAt_vmem h_S256x1024))
  Prog.lift (.store oM (rowR offF inbF) (k0_pay1 a b) Finset.univ (View.stores_vmem_bits_univ h_S256x1024 rfl) (.inl rfl))
  Prog.lift (.enqueueDma (rowsM oM 256 sndF snbF) (.remote (Dev.tc n₁) (slotM ![1, 0, 0, 0] inb_S3x1x256x1024_S1x1x256x1024_1_0_0_0) (.dma d2))
    (.dma d7) (View.wordExact_bits rfl) ((View.wordExact_bits rfl).reshape _ _) ⟨⟨rfl, Or.inl rfl⟩, trivial⟩)
  Prog.lift (.waitDma2 d6 (slotM ![0, 0, 0, 0] inb_S3x1x256x1024_S1x1x256x1024_0_0_0_0) (slotM ![0, 0, 0, 0] inb_S3x1x256x1024_S1x1x256x1024_0_0_0_0)
    ((View.wordExact_bits rfl).reshape _ _) ((View.wordExact_bits rfl).reshape _ _))
  Prog.lift (.waitDma2 d7 (slotM ![1, 0, 0, 0] inb_S3x1x256x1024_S1x1x256x1024_1_0_0_0) (slotM ![1, 0, 0, 0] inb_S3x1x256x1024_S1x1x256x1024_1_0_0_0)
    ((View.wordExact_bits rfl).reshape _ _) ((View.wordExact_bits rfl).reshape _ _))
  let a : Vec F S256x1024 .f32 ← Prog.lift (.load xM (rowR offN inbN).toLoadRect (View.loadsAt_vmem h_S256x1024))
  let b : Vec F S1x1x256x1024 .f32 ← Prog.lift (.load pM (slotR ![0, 0, 0, 0] inb_S3x1x256x1024_S1x1x256x1024_0_0_0_0).toLoadRect (View.loadsAt_vmem h_S1x1x256x1024))
  let d : Vec F S1x1x256x1024 .f32 ← Prog.lift (.load pM (slotR ![1, 0, 0, 0] inb_S3x1x256x1024_S1x1x256x1024_1_0_0_0).toLoadRect (View.loadsAt_vmem h_S1x1x256x1024))
  let _ : Vec F S256x1024 .f32 ← Prog.lift (.load oM (rowR offN inbN).toLoadRect (View.loadsAt_vmem h_S256x1024))
  Prog.lift (.store oM (rowR offN inbN) (k0_pay2 a b d) Finset.univ (View.stores_vmem_bits_univ h_S256x1024 rfl) (.inl rfl))
  Prog.lift (.enqueueDma (rowsM oM 256 sndN snbN) (.remote (Dev.tc n₂) (rowsM oM 256 sndN snbN) (.dma d3))
    (.dma d6) (View.wordExact_bits rfl) (View.wordExact_bits rfl) ⟨⟨rfl, Or.inl rfl⟩, trivial⟩)
  Prog.lift (.enqueueDma (rowsM oM 256 sndN snbN) (.remote (Dev.tc n₃) (rowsM oM 256 sndN snbN) (.dma d4))
    (.dma d9) (View.wordExact_bits rfl) (View.wordExact_bits rfl) ⟨⟨rfl, Or.inl rfl⟩, trivial⟩)
  Prog.lift (.waitDma2 d9 (rowsM oM 256 sndF snbF) (rowsM oM 256 sndF snbF) (View.wordExact_bits rfl) (View.wordExact_bits rfl))
  Prog.lift (.enqueueDma (rowsM oM 256 sndF snbF) (.remote (Dev.tc n₄) (rowsM oM 256 sndF snbF) (.dma d5))
    (.dma d7) (View.wordExact_bits rfl) (View.wordExact_bits rfl) ⟨⟨rfl, Or.inl rfl⟩, trivial⟩)
  Prog.lift (.waitDma2 d2 (slotM ![1, 0, 0, 0] inb_S3x1x256x1024_S1x1x256x1024_1_0_0_0) (rowsM oM 256 sndF snbF)
    ((View.wordExact_bits rfl).reshape _ _) (View.wordExact_bits rfl))
  Prog.lift (.waitDma2 d3 (rowsM oM 256 sndN snbN) (rowsM oM 256 sndN snbN) (View.wordExact_bits rfl) (View.wordExact_bits rfl))
  Prog.lift (.waitDma2 d4 (rowsM oM 256 sndN snbN) (rowsM oM 256 sndN snbN) (View.wordExact_bits rfl) (View.wordExact_bits rfl))
  Prog.lift (.waitDma2 d5 (rowsM oM 256 sndF snbF) (rowsM oM 256 sndF snbF) (View.wordExact_bits rfl) (View.wordExact_bits rfl))
  pure ⟨⟩

/-- What a middle device starts the copies along `y` with, -/
def middlePre (c : Dev nD) (l : List (Fin 22)) : sProp 𝕄 :=
  iprop(snd c d2 ∗ snd c d3 ∗ snd c d4 ∗ snd c d5 ∗ rcv c d6 ∗ rcv c d7 ∗ rcv c d8 ∗ rcv c d9
    ∗ ptok c 6 ∗ ptok c 5 ∗ ptok c 9 ∗ ptok c 7
    ∗ xP c (rows (near c) 256) (X c) ∗ xP c (rows (far c) 256) (X c)
    ∗ oH c (rows (near c) 256) ∗ oH c (rows (far c) 256)
    ∗ oH (ypair c) (rows (near c) 256) ∗ oH (ypair c) (rows (far c) 256) ∗ pH (ymir c) 1 ∗ owing c (6 :: 5 :: 9 :: 7 :: l))
/-- and ends with. -/
def middlePost (c : Dev nD) (l : List (Fin 22)) : sProp 𝕄 :=
  iprop(zero c d2 ∗ zero c d3 ∗ zero c d4 ∗ zero c d5 ∗ zero c d6 ∗ zero c d7 ∗ zero c d8 ∗ zero c d9
    ∗ xP c (rows (near c) 256) (X c) ∗ xP c (rows (far c) 256) (X c)
    ∗ oP c (rows (near c) 256) fullShare (total X) ∗ oP c (rows (far c) 256) fullShare (total X)
    ∗ pH c 0 ∗ pH c 1 ∗ pH c 2 ∗ owing c l)

theorem lvl_middle (c : Dev nD) (hm : mid c = true) :
    (lvlOf c (.dma d6) = 2 ∧ lvlOf c (.dma d7) = 3 ∧ lvlOf c (.dma d8) = 2 ∧ lvlOf c (.dma d9) = 4)
      ∧ lvlOf (peer 6 c) (key 6) = 3 ∧ lvlOf (peer 5 c) (key 5) = 4 ∧ lvlOf (peer 9 c) (key 9) = 4 ∧ lvlOf (peer 7 c) (key 7) = 5 := by
  revert c; decide +kernel
theorem ok_middle (c : Dev nD) (hm : mid c = true) : ok 6 c = true ∧ ok 5 c = true ∧ ok 9 c = true ∧ ok 7 c = true := by
  revert c; decide +kernel

theorem oH_open (c : Dev nD) (S) : oH (F := F) c S ⊢ iprop(∃ f, oP c S fullShare f) := Entails.of_eq rfl

/-- Rows held in full, as two shares. -/
theorem halves (c : Dev nD) (S) (f : Blk F) : oP c S fullShare f ⊣⊢ iprop(oP c S fullShare.left f ∗ oP c S fullShare.right f) := by
  unfold oP; exact pointsTo_share (PosShare.mem_left_op_right _)

/-- A middle device's copies along `y` leave it the sum on its own part. -/
theorem wp_middle (c : Dev nD) (l : List (Fin 22)) (hm : mid c = true) (hN : offN = ![near c, 0]) (hF : offF = ![far c, 0])
    (gN : sndN = ![near c, 0]) (gF : sndF = ![far c, 0])
    (h₁ : n₁ = ymir c) (h₂ : n₂ = ypair c) (h₃ : n₃ = ymir c) (h₄ : n₄ = ypair c)
    (hl : ∀ s ∈ l, 5 < lvlOf (peer s c) (key s)) (Q : PUnit → sProp 𝕄) :
    world X ⊢ iprop(middlePre X c l -∗ (middlePost X c l -∗ Q ⟨⟩)
      -∗ WP c (middleProg offN offF sndN sndF inbN inbF snbN snbF n₁ n₂ n₃ n₄) Q) := by
  have hmp : mid (ypair c) = false := by rw [mid_ypair, hm]; rfl
  have hmm : mid (ymir c) = true := by rw [mid_ymir, hm]
  obtain ⟨⟨l6, l7, l8, l9⟩, k6, k5, k9, k7⟩ := lvl_middle c hm
  obtain ⟨o6, o5, o9, o7⟩ := ok_middle c hm
  have hw : ∀ s ∈ 7 :: l, 4 < lvlOf (peer s c) (key s) := by
    refine List.forall_mem_cons.2 ⟨by omega, fun s hs => ?_⟩; have := hl s hs; omega
  have hv : ∀ s ∈ 5 :: 9 :: 7 :: l, 3 < lvlOf (peer s c) (key s) := by
    refine List.forall_mem_cons.2 ⟨by omega, List.forall_mem_cons.2 ⟨by omega, fun s hs => ?_⟩⟩; have := hw s hs; omega
  have hu : ∀ s ∈ 6 :: 5 :: 9 :: 7 :: l, 2 < lvlOf (peer s c) (key s) := by
    refine List.forall_mem_cons.2 ⟨by omega, fun s hs => ?_⟩; have := hv s hs; omega
  have um := used_mid c hm
  unfold middlePre middlePost middleProg
  simp only [Prog.lift, Prog.bind_op, Prog.bind_ret, Prog.pure_eq_ret, Prog.bind_assoc]
  iintro #HW ⟨Hs2, Hs3, Hs4, Hs5, Hr6, Hr7, Hr8, Hr9, Ht6, Ht5, Ht9, Ht7, HxN, HxF, HoN, HoF, HqN, HqF, Hp1, HO⟩ Hk
  iapply (wp_take_slot X c d8 _ (by decide) (um 8 (by decide) (by decide)) (by rw [l8]; exact hu)
    (Entails.of_eq (yPay_8 X c)) rfl (by decide)) $$ HW Hr8 HO
  iintro ⟨Hz8, Hb2, HO⟩
  iapply (wp_load_x c hF (X c)) $$ HxF; iintro HxF
  iapply (wp_load_p c _) $$ Hb2; iintro Hb2
  ihave HoF := oH_open _ _ $$ HoF
  icases HoF with ⟨%f₁, HoF⟩
  iapply (wp_load_o c hF _ f₁) $$ HoF; iintro HoF
  iapply (wp_store_o c hF f₁ (part X c) (pay1_part X c (far c) 2)) $$ HoF; iintro HoF
  iapply (wp_send_part X c n₁ 6 d2 _ (ymir c) rfl h₁ o6 (by decide) (um 2 (by decide) (by decide)) rfl rfl gF (by decide) (by decide)
    (part X c) (Entails.of_eq (yPay_2_mid X c hm).symm)
    (by
      show _ ⊢ yPay X (ymir c) 7
      rw [yPay_7_mid X _ hmm, ymir_ymir, near_ymir]
      unfold oH
      iintro ⟨H1, H2⟩
      isplitl [H1]; · iexact H1
      iexists _; iexact H2)) $$ HW Hs2 Ht6 HO HoF Hp1
  iintro ⟨Hr2, HO⟩
  iapply (wp_take_slot X c d6 _ (by decide) (um 6 (by decide) (by decide)) (by rw [l6]; exact fun s hs => by have := hv s hs; omega)
    (Entails.of_eq (yPay_6_mid X c hm)) rfl (by decide)) $$ HW Hr6 HO
  iintro ⟨Hz6, Hb0, HO⟩
  iapply (wp_take_slot X c d7 _ (by decide) (um 7 (by decide) (by decide)) (by rw [l7]; exact hv)
    (Entails.of_eq (yPay_7_mid X c hm)) rfl (by decide)) $$ HW Hr7 HO
  iintro ⟨Hz7, ⟨Hb1, HmN⟩, HO⟩
  iapply (wp_load_x c hN (X c)) $$ HxN; iintro HxN
  iapply (wp_load_p c _) $$ Hb0; iintro Hb0
  iapply (wp_load_p c _) $$ Hb1; iintro Hb1
  ihave HoN := oH_open _ _ $$ HoN
  icases HoN with ⟨%f₂, HoN⟩
  iapply (wp_load_o c hN _ f₂) $$ HoN; iintro HoN
  iapply (wp_store_o c hN f₂ (total X) (pay2_total X c hm)) $$ HoN; iintro HoN
  ihave Hsh := (halves c _ _).1 $$ HoN
  icases Hsh with ⟨HoL, HoR⟩
  iapply (wp_send_half X c n₂ 5 d3 _ (ypair c) rfl h₂ o5 (by decide) (um 3 (by decide) (by decide)) rfl rfl gN (by decide) (by decide)
    fullShare.left (total X) (Entails.of_eq (yPay_3_mid X c hm).symm)
    (Entails.of_eq (by rw [yPay_6_end X _ hmp, near_ypair]))) $$ HW Hs3 Ht5 HO HoL HqN
  iintro ⟨Hr3, HO⟩
  iapply (wp_send_half X c n₃ 9 d4 _ (ymir c) rfl h₃ o9 (by decide) (um 4 (by decide) (by decide)) rfl rfl gN (by decide) (by decide)
    fullShare.right (total X) (Entails.of_eq (yPay_4 X c).symm)
    (Entails.of_eq (by rw [yPay_9 X, far_ymir]))) $$ HW Hs4 Ht9 HO HoR HmN
  iintro ⟨Hr4, HO⟩
  iapply (wp_take_rows X c d9 _ (by decide) (um 9 (by decide) (by decide)) (by rw [l9]; exact hw)
    (Entails.of_eq (yPay_9 X c)) rfl oM (.inl rfl) (by decide)) $$ HW Hr9 HO
  iintro ⟨Hz9, HoF, HO⟩
  iapply (wp_send_half X c n₄ 7 d5 _ (ypair c) rfl h₄ o7 (by decide) (um 5 (by decide) (by decide)) rfl rfl gF (by decide) (by decide)
    fullShare (total X) (Entails.of_eq (yPay_5 X c).symm)
    (Entails.of_eq (by rw [yPay_7_end X _ hmp, far_ypair]))) $$ HW Hs5 Ht7 HO HoF HqF
  iintro ⟨Hr5, HO⟩
  iapply (wp_take_rows X c d2 _ (by decide) (um 2 (by decide) (by decide)) (fun s _ => lvl_pos c s)
    (Entails.of_eq (yPay_2_mid X c hm)) rfl oM (.inl rfl) (by decide)) $$ HW Hr2 HO
  iintro ⟨Hz2, _, HO⟩
  iapply (wp_take_rows X c d3 _ (by decide) (um 3 (by decide) (by decide)) (fun s _ => lvl_pos c s)
    (Entails.of_eq (yPay_3_mid X c hm)) rfl oM (.inl rfl) (by decide)) $$ HW Hr3 HO
  iintro ⟨Hz3, HoL, HO⟩
  iapply (wp_take_rows X c d4 _ (by decide) (um 4 (by decide) (by decide)) (fun s _ => lvl_pos c s)
    (Entails.of_eq (yPay_4 X c)) rfl oM (.inl rfl) (by decide)) $$ HW Hr4 HO
  iintro ⟨Hz4, HoR, HO⟩
  iapply (wp_take_rows X c d5 _ (by decide) (um 5 (by decide) (by decide)) (fun s _ => lvl_pos c s)
    (Entails.of_eq (yPay_5 X c)) rfl oM (.inl rfl) (by decide)) $$ HW Hr5 HO
  iintro ⟨Hz5, HoF, HO⟩
  ihave HoN := (halves c _ _).2 $$ [$HoL $HoR]
  iapply (wp_done c)
  iapply Hk
  unfold pH
  iframe
  isplitl [Hb0]; · iexists _; iexact Hb0
  isplitl [Hb1]; · iexists _; iexact Hb1
  iexists _; iexact Hb2

end Prog

end Cert.AllReduce

end
-- ==== Proof.Spread.lean ====
/-
# The copies along `z` and across `x`: one copy, one wait

What a device needs for one copy of a part of its half to a neighbour along `z` or across `x`, and what the waits for
such copies bring.
-/
module

public import proofs.«01_k».proof.Proof.Moves

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## Per port: its send semaphore, its part, its share of the part -/

def zsem (s : Fin 22) : DmaSem sig := ⟨if s.val < 18 then s.val else s.val + 8, by
  have h := s.isLt
  show (if s.val < 18 then s.val else s.val + 8) < 34
  split <;> omega⟩
def zo (s : Fin 22) : ℕ := (s.val - 10) % 4
def zsh (s : Fin 22) : PosShare TreeShare := if s.val < 14 then sh0 else if s.val < 18 then sh1 else sh2

section Ranges
variable (c : Dev nD) (i : ℕ)
theorem zPay_10 (h : 10 ≤ i) (h' : i < 14) : zPay X c i = oP c (prt (xc c) (i - 10)) sh0 (total X) := by
  unfold zPay; rw [if_pos h']
theorem zPay_14 (h : 14 ≤ i) (h' : i < 18) : zPay X c i = oP c (prt (xc c) (i - 14)) sh1 (total X) := by
  unfold zPay; rw [if_neg (show ¬ i < 14 by omega), if_pos h']
theorem zPay_18 (h : 18 ≤ i) (h' : i < 22) : zPay X c i = oP c (prt (xc c) (i - 18)) fullShare (total X) := by
  unfold zPay; rw [if_neg (show ¬ i < 14 by omega), if_neg (show ¬ i < 18 by omega), if_pos h']
theorem zPay_22 (h : 22 ≤ i) (h' : i < 26) : zPay X c i = oP c (prt (xc c) (i - 22)) fullShare (total X) := by
  unfold zPay; rw [if_neg (show ¬ i < 14 by omega), if_neg (show ¬ i < 18 by omega), if_neg (show ¬ i < 22 by omega), if_pos h']
theorem zPay_26 (h : 26 ≤ i) (h' : i < 30) : zPay X c i = oP c (prt (xc c) (i - 26)) sh2 (total X) := by
  unfold zPay; rw [if_neg (show ¬ i < 14 by omega), if_neg (show ¬ i < 18 by omega), if_neg (show ¬ i < 22 by omega), if_neg (show ¬ i < 26 by omega), if_pos h']
theorem zPay_30 (h : 30 ≤ i) : zPay X c i = oP c (prt (1 - xc c) (i - 30)) fullShare (total X) := by
  unfold zPay; rw [if_neg (show ¬ i < 14 by omega), if_neg (show ¬ i < 18 by omega), if_neg (show ¬ i < 22 by omega), if_neg (show ¬ i < 26 by omega), if_neg (show ¬ i < 30 by omega)]
end Ranges

theorem zPay_own (c : Dev nD) (s : Fin 22) (hs : 10 ≤ s.val) :
    zPay X c (zsem s).val = oP c (prt (xc c) (zo s)) (zsh s) (total X) := by
  have hv : (zsem s).val = if s.val < 18 then s.val else s.val + 8 := rfl
  have := s.isLt
  rcases (by omega : s.val < 14 ∨ (14 ≤ s.val ∧ s.val < 18) ∨ 18 ≤ s.val) with h | ⟨h, h'⟩ | h
  · rw [if_pos (show s.val < 18 by omega)] at hv
    rw [hv, zPay_10 X c _ hs h]; unfold zsh zo; rw [if_pos h, show (s.val - 10) % 4 = s.val - 10 by omega]
  · rw [if_pos h'] at hv
    rw [hv, zPay_14 X c _ h h']; unfold zsh zo
    rw [if_neg (show ¬ s.val < 14 by omega), if_pos h', show (s.val - 10) % 4 = s.val - 14 by omega]
  · rw [if_neg (show ¬ s.val < 18 by omega)] at hv
    rw [hv, zPay_26 X c _ (by omega) (by omega)]; unfold zsh zo
    rw [if_neg (show ¬ s.val < 14 by omega), if_neg (show ¬ s.val < 18 by omega), show (s.val - 10) % 4 = s.val + 8 - 26 by omega]

theorem xc_along : ∀ (s : Fin 22) (c : Dev nD), 10 ≤ s.val → s.val < 18 → xc (peer s c) = xc c := by decide +kernel
theorem xc_across : ∀ (s : Fin 22) (c : Dev nD), 18 ≤ s.val → 1 - xc (peer s c) = xc c := by decide +kernel

theorem zPay_peer (c : Dev nD) (s : Fin 22) (hs : 10 ≤ s.val) (j : DmaSem sig) (hj : j.val = if s.val < 18 then s.val + 8 else s.val + 12) :
    zPay X (peer s c) j.val = oP (peer s c) (prt (xc c) (zo s)) fullShare (total X) := by
  have := s.isLt
  unfold zo
  rcases (by omega : s.val < 14 ∨ (14 ≤ s.val ∧ s.val < 18) ∨ 18 ≤ s.val) with h | ⟨h, h'⟩ | h
  · rw [hj, if_pos (show s.val < 18 by omega), zPay_18 X _ _ (by omega) (by omega), xc_along s c hs (by omega), show (s.val - 10) % 4 = s.val + 8 - 18 by omega]
  · rw [hj, if_pos h', zPay_22 X _ _ (by omega) (by omega), xc_along s c hs h', show (s.val - 10) % 4 = s.val + 8 - 22 by omega]
  · rw [hj, if_neg (show ¬ s.val < 18 by omega), zPay_30 X _ _ (by omega), xc_across s c h, show (s.val - 10) % 4 = s.val + 12 - 30 by omega]

theorem key_z (s : Fin 22) (hs : 10 ≤ s.val) (j : DmaSem sig) (hk : (SemLoc.dma j : SemLoc sig) = key s) :
    j.val = if s.val < 18 then s.val + 8 else s.val + 12 := by
  unfold key at hk
  rw [if_neg (by omega), if_neg (by omega), if_neg (by omega), if_neg (by omega), if_neg (by omega), if_neg (by omega)] at hk
  exact congrArg Fin.val (SemLoc.dma.inj hk)

theorem used_z : ∀ (s : Fin 22) (c : Dev nD), 10 ≤ s.val → used c (zsem s).val = ok s c := by decide +kernel

/-- A part held in full, as the three shares its copies take. -/
theorem thirds (c : Dev nD) (S) (f : Blk F) :
    oP c S fullShare f ⊣⊢ iprop(oP c S sh0 f ∗ oP c S sh1 f ∗ oP c S sh2 f) := by
  unfold oP
  constructor
  · iintro H
    ihave H := (pointsTo_share (PosShare.mem_left_op_right _)).1 $$ H
    icases H with ⟨H0, H⟩
    ihave H := (pointsTo_share (PosShare.mem_left_op_right _)).1 $$ H
    icases H with ⟨H1, H2⟩
    iframe
  · iintro ⟨H0, H1, H2⟩
    iapply (pointsTo_share (PosShare.mem_left_op_right _)).2
    isplitl [H0]; · iexact H0
    iapply (pointsTo_share (PosShare.mem_left_op_right _)).2
    isplitl [H1]; · iexact H1
    iexact H2

/-! ## One copy -/

/-- What one copy needs besides the share of the part: the semaphores, and the neighbour's rows. -/
def zgo (c : Dev nD) (s : Fin 22) : sProp 𝕄 := iprop(snd c (zsem s) ∗ ptok c s ∗ oH (peer s c) (prt (xc c) (zo s)))

theorem wp_zsend (c n : Dev nD) (s : Fin 22) (i : DmaSem sig) (o : ℕ) (q : PosShare TreeShare) (l : List (Fin 22)) (hn : n = peer s c)
    (hs : 10 ≤ s.val) (hok : ok s c = true) (hi : zsem s = i) (ho : zo s = o) (hq : zsh s = q)
    {sS sem : DmaSem sig} (hS : sS = i) (hk : (SemLoc.dma sem : SemLoc sig) = key s)
    {off : Fin 2 → ℕ} (hoff : off = ![2048 * xc c + 512 * o, 0]) {inb : ∀ a, off a + S512x1024.size a ≤ S4096x1024.size a}
    {hsc : (rowsM oM 512 off inb : Memref sig (Dev.tc n : Thread nD τ).2.kind .vmem ⟨2, ![512, 1024]⟩ .f32).view.ref.isScScratch = false}
    {hsrc : (rowsM oM 512 off inb).view.WordExact} {hdst : (rowsM oM 512 off inb).view.WordExact}
    {hsem : DmaTarget.Typed .vmem (.dma sem) (.remote (Dev.tc n : Thread nD τ)
      (rowsM oM 512 off inb : Memref sig (Dev.tc n : Thread nD τ).2.kind .vmem ⟨2, ![512, 1024]⟩ .f32) (.dma sS) hsc)}
    {α : Type} {Q : α → sProp 𝕄} {k : PUnit → Prog (TpuEff nD τ sig (Elt F) Λ₀ .tc) α} :
    world X ⊢ iprop(zgo c s -∗ owing c (s :: l) -∗ oP c (prt (xc c) o) q (total X)
      -∗ ((rcv c i ∗ owing c l) -∗ WP c (k ⟨⟩) Q)
      -∗ WP c (.op (.enqueueDma (rowsM oM 512 off inb) (.remote (Dev.tc n : Thread nD τ) (rowsM oM 512 off inb) (.dma sS) hsc)
            (.dma sem) hsrc hdst hsem) k) Q) := by
  subst hi ho hq
  have hj := key_z s hs sem hk
  have hv : (zsem s).val = if s.val < 18 then s.val else s.val + 8 := rfl
  unfold zgo
  iintro #HW ⟨Hs, Ht, Hd⟩ HO Hp Hk
  iapply (wp_send_whole X c n s (zsem s) l (peer s c) rfl hn hok (by rw [hv]; split <;> omega) ((used_z s c hs).trans hok) hS hk hoff
    (by rw [hv]; split <;> omega) (by rw [hj]; split <;> omega) (zsh s) (total X)
    (Entails.of_eq (zPay_own X c s hs).symm) (Entails.of_eq (zPay_peer X c s hs sem hj).symm)) $$ HW Hs Ht HO Hp Hd Hk

/-! ## One wait -/

section Waits
variable (c : Dev nD) (l : List (Fin 22))

/-- A send's wait brings its share of the part back; -/
theorem wp_zdrain (s : Fin 22) (i : DmaSem sig) (o : ℕ) (q : PosShare TreeShare) (hs : 10 ≤ s.val) (hok : ok s c = true)
    (hi : zsem s = i) (ho : zo s = o) (hq : zsh s = q) {sem : DmaSem sig} (hS : sem = i)
    {s' : Shape} {src : Memref sig .tc .vmem s' .f32}
    {off : Fin 2 → ℕ} {inb : ∀ a, off a + S512x1024.size a ≤ S4096x1024.size a}
    {hsrc : src.view.WordExact} {hdst : (rowsM oM 512 off inb).view.WordExact}
    {α : Type} {Q : α → sProp 𝕄} {k : PUnit → Prog (TpuEff nD τ sig (Elt F) Λ₀ .tc) α} :
    world X ⊢ iprop(rcv c i -∗ owing c l -∗ ((zero c i ∗ oP c (prt (xc c) o) q (total X) ∗ owing c l) -∗ WP c (k ⟨⟩) Q)
          -∗ WP c (.op (.waitDma2 sem src (rowsM oM 512 off inb) hsrc hdst) k) Q) := by
  subst hi ho hq
  have hv : (zsem s).val = if s.val < 18 then s.val else s.val + 8 := rfl
  have hlv : lvlOf c (.dma (zsem s)) = 0 := by
    unfold lvlOf; dsimp only; rw [hv]; have := s.isLt; (repeat' split) <;> omega
  exact wp_take_part X c (zsem s) l (by rw [hv]; split <;> omega) ((used_z s c hs).trans hok) (fun t _ => by rw [hlv]; exact lvl_pos c t)
    (Entails.of_eq (zPay_own X c s hs)) hS (by rw [hv]; split <;> omega)

/-- a receive along `z` brings a part of the device's half; -/
theorem wp_zrecv (i : DmaSem sig) (o : ℕ) (h1 : 18 ≤ i.val) (h2 : i.val < 26) (hu : used c i.val = true) (ho : (i.val - 18) % 4 = o)
    (hl : ∀ s ∈ l, lvlOf c (.dma i) < lvlOf (peer s c) (key s)) {sem : DmaSem sig} (hS : sem = i)
    {s' : Shape} {src : Memref sig .tc .vmem s' .f32}
    {off : Fin 2 → ℕ} {inb : ∀ a, off a + S512x1024.size a ≤ S4096x1024.size a}
    {hsrc : src.view.WordExact} {hdst : (rowsM oM 512 off inb).view.WordExact}
    {α : Type} {Q : α → sProp 𝕄} {k : PUnit → Prog (TpuEff nD τ sig (Elt F) Λ₀ .tc) α} :
    world X ⊢ iprop(rcv c i -∗ owing c l
          -∗ ((zero c i ∗ (oP c (prt (xc c) o) sh0 (total X) ∗ oP c (prt (xc c) o) sh1 (total X) ∗ oP c (prt (xc c) o) sh2 (total X)) ∗ owing c l)
            -∗ WP c (k ⟨⟩) Q)
          -∗ WP c (.op (.waitDma2 sem src (rowsM oM 512 off inb) hsrc hdst) k) Q) := by
  subst ho
  refine wp_take_part X c i l (by omega) hu hl (Entails.trans (Entails.of_eq ?_) (thirds c _ _).1) hS (by omega)
  rcases (by omega : i.val < 22 ∨ 22 ≤ i.val) with h | h
  · rw [zPay_18 X c _ h1 h, show (i.val - 18) % 4 = i.val - 18 by omega]
  · rw [zPay_22 X c _ h h2, show (i.val - 18) % 4 = i.val - 22 by omega]

/-- a receive across `x` a part of the other half. -/
theorem wp_xrecv (i : DmaSem sig) (o : ℕ) (h1 : 30 ≤ i.val) (ho : i.val - 30 = o) {sem : DmaSem sig} (hS : sem = i)
    {s' : Shape} {src : Memref sig .tc .vmem s' .f32}
    {off : Fin 2 → ℕ} {inb : ∀ a, off a + S512x1024.size a ≤ S4096x1024.size a}
    {hsrc : src.view.WordExact} {hdst : (rowsM oM 512 off inb).view.WordExact}
    {α : Type} {Q : α → sProp 𝕄} {k : PUnit → Prog (TpuEff nD τ sig (Elt F) Λ₀ .tc) α} :
    world X ⊢ iprop(rcv c i -∗ owing c []
          -∗ ((zero c i ∗ oP c (prt (1 - xc c) o) fullShare (total X) ∗ owing c []) -∗ WP c (k ⟨⟩) Q)
          -∗ WP c (.op (.waitDma2 sem src (rowsM oM 512 off inb) hsrc hdst) k) Q) := by
  subst ho
  refine wp_take_part X c i [] (by omega) ?_ (fun t ht => absurd ht List.not_mem_nil) (Entails.of_eq ?_) hS (by omega)
  · unfold used
    rw [if_neg (show ¬ i.val < 2 by omega), if_neg (show ¬ i.val < 4 by omega), if_neg (show ¬ i.val < 6 by omega),
      if_neg (show ¬ i.val < 8 by omega), if_neg (show ¬ i.val < 10 by omega), if_neg (show ¬ i.val < 14 by omega),
      if_neg (show ¬ i.val < 18 by omega), if_neg (show ¬ i.val < 22 by omega), if_neg (show ¬ i.val < 26 by omega)]
  · exact zPay_30 X c _ h1

end Waits

/-! ## The copies and waits, as programs -/

def zSend (off : Fin 2 → ℕ) (inb : ∀ a, off a + S512x1024.size a ≤ S4096x1024.size a) (n : Dev nD) (i j : DmaSem sig) :
    Prog (TpuEff nD τ sig (Elt F) Λ₀ .tc) PUnit :=
  Prog.lift (.enqueueDma (rowsM oM 512 off inb) (.remote (Dev.tc n) (rowsM oM 512 off inb) (.dma i)) (.dma j)
    (View.wordExact_bits rfl) (View.wordExact_bits rfl) ⟨⟨rfl, Or.inl rfl⟩, trivial⟩)
def zWait (off : Fin 2 → ℕ) (inb : ∀ a, off a + S512x1024.size a ≤ S4096x1024.size a) (i : DmaSem sig) :
    Prog (TpuEff nD τ sig (Elt F) Λ₀ .tc) PUnit :=
  Prog.lift (.waitDma2 i (rowsM oM 512 off inb) (rowsM oM 512 off inb) (View.wordExact_bits rfl) (View.wordExact_bits rfl))

/-- The four parts of a device's half, held in full, at the sum. -/
def halfDone (c : Dev nD) : sProp 𝕄 :=
  iprop(oP c (prt (xc c) 0) fullShare (total X) ∗ oP c (prt (xc c) 1) fullShare (total X)
    ∗ oP c (prt (xc c) 2) fullShare (total X) ∗ oP c (prt (xc c) 3) fullShare (total X))

end Cert.AllReduce

end
-- ==== Proof.Half.lean ====
/-
# The copies along `z` and across `x`, at each place along `z`

A device starts with its own part of its half of the result. It sends every part it holds onwards along `z` and across
`x`, and receives the other three parts along `z`. Each of the four places along `z` has its own order of copies.
-/
module

public import proofs.«01_k».proof.Proof.Spread

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

variable (O : Fin 4 → Fin 2 → ℕ) (B : ∀ r a, O r a + S512x1024.size a ≤ S4096x1024.size a)

/-! ## At `z = 0` -/

section Z0
variable (p10 p18 p19 p20 p21 : Dev nD)

def z0Prog : Prog (TpuEff nD τ sig (Elt F) Λ₀ .tc) PUnit := do
  zSend (O 0) (B 0) p10 d10 d18
  zSend (O 0) (B 0) p18 d26 d30
  zWait (O 1) (B 1) d23
  zSend (O 1) (B 1) p19 d27 d31
  zWait (O 2) (B 2) d24
  zSend (O 2) (B 2) p20 d28 d32
  zWait (O 3) (B 3) d25
  zSend (O 3) (B 3) p21 d29 d33
  zWait (O 0) (B 0) d10
  zWait (O 0) (B 0) d26
  zWait (O 1) (B 1) d27
  zWait (O 2) (B 2) d28
  zWait (O 3) (B 3) d29
  pure ⟨⟩

def z0Pre (c : Dev nD) : sProp 𝕄 :=
  iprop(zgo c 10 ∗ zgo c 18 ∗ zgo c 19 ∗ zgo c 20 ∗ zgo c 21 ∗ rcv c d23 ∗ rcv c d24 ∗ rcv c d25
    ∗ oP c (prt (xc c) 0) fullShare (total X) ∗ owing c [10, 18, 19, 20, 21])
def z0Post (c : Dev nD) : sProp 𝕄 :=
  iprop(zero c d10 ∗ zero c d26 ∗ zero c d27 ∗ zero c d28 ∗ zero c d29 ∗ zero c d23 ∗ zero c d24 ∗ zero c d25 ∗ halfDone X c ∗ owing c [])

theorem ok_z0 : ∀ c : Dev nD, zc c = 0 → ok 10 c = true ∧ used c 23 = true ∧ used c 24 = true ∧ used c 25 = true := by decide +kernel
theorem lvl_z0 : ∀ c : Dev nD, zc c = 0 →
    (∀ s ∈ [19, 20, 21], lvlOf c (.dma d23) < lvlOf (peer s c) (key s)) ∧ (∀ s ∈ [20, 21], lvlOf c (.dma d24) < lvlOf (peer s c) (key s))
      ∧ ∀ s ∈ [21], lvlOf c (.dma d25) < lvlOf (peer s c) (key s) := by decide +kernel

theorem wp_z0 (c : Dev nD) (hz : zc c = 0) (hO : ∀ r, O r = ![2048 * xc c + 512 * r.val, 0])
    (h10 : p10 = zup c) (h18 : p18 = xp c) (h19 : p19 = xp c) (h20 : p20 = xp c) (h21 : p21 = xp c) (Q : PUnit → sProp 𝕄) :
    world X ⊢ iprop(z0Pre X c -∗ (z0Post X c -∗ Q ⟨⟩) -∗ WP c (z0Prog O B p10 p18 p19 p20 p21) Q) := by
  obtain ⟨o10, u23, u24, u25⟩ := ok_z0 c hz
  obtain ⟨l23, l24, l25⟩ := lvl_z0 c hz
  unfold z0Pre z0Post z0Prog halfDone
  simp only [zSend, zWait, Prog.lift, Prog.bind_op, Prog.bind_ret, Prog.pure_eq_ret, Prog.bind_assoc]
  iintro #HW ⟨G10, G18, G19, G20, G21, R23, R24, R25, P0, HO⟩ Hk
  ihave P0 := (thirds c _ _).1 $$ P0
  icases P0 with ⟨P00, P01, P02⟩
  iapply (wp_zsend X c p10 10 d10 0 sh0 _ h10 (by decide) o10 rfl rfl rfl rfl rfl (hO 0)) $$ HW G10 HO P00; iintro ⟨R10, HO⟩
  iapply (wp_zsend X c p18 18 d26 0 sh2 _ h18 (by decide) rfl rfl rfl rfl rfl rfl (hO 0)) $$ HW G18 HO P02; iintro ⟨R18, HO⟩
  iapply (wp_zrecv X c _ d23 1 (by decide) (by decide) u23 rfl l23 rfl) $$ HW R23 HO; iintro ⟨Z23, ⟨P10, P11, P12⟩, HO⟩
  iapply (wp_zsend X c p19 19 d27 1 sh2 _ h19 (by decide) rfl rfl rfl rfl rfl rfl (hO 1)) $$ HW G19 HO P12; iintro ⟨R19, HO⟩
  iapply (wp_zrecv X c _ d24 2 (by decide) (by decide) u24 rfl l24 rfl) $$ HW R24 HO; iintro ⟨Z24, ⟨P20, P21, P22⟩, HO⟩
  iapply (wp_zsend X c p20 20 d28 2 sh2 _ h20 (by decide) rfl rfl rfl rfl rfl rfl (hO 2)) $$ HW G20 HO P22; iintro ⟨R20, HO⟩
  iapply (wp_zrecv X c _ d25 3 (by decide) (by decide) u25 rfl l25 rfl) $$ HW R25 HO; iintro ⟨Z25, ⟨P30, P31, P32⟩, HO⟩
  iapply (wp_zsend X c p21 21 d29 3 sh2 _ h21 (by decide) rfl rfl rfl rfl rfl rfl (hO 3)) $$ HW G21 HO P32; iintro ⟨R21, HO⟩
  iapply (wp_zdrain X c _ 10 d10 0 sh0 (by decide) o10 rfl rfl rfl rfl) $$ HW R10 HO; iintro ⟨Z10, P00, HO⟩
  iapply (wp_zdrain X c _ 18 d26 0 sh2 (by decide) rfl rfl rfl rfl rfl) $$ HW R18 HO; iintro ⟨Z26, P02, HO⟩
  iapply (wp_zdrain X c _ 19 d27 1 sh2 (by decide) rfl rfl rfl rfl rfl) $$ HW R19 HO; iintro ⟨Z27, P12, HO⟩
  iapply (wp_zdrain X c _ 20 d28 2 sh2 (by decide) rfl rfl rfl rfl rfl) $$ HW R20 HO; iintro ⟨Z28, P22, HO⟩
  iapply (wp_zdrain X c _ 21 d29 3 sh2 (by decide) rfl rfl rfl rfl rfl) $$ HW R21 HO; iintro ⟨Z29, P32, HO⟩
  iapply (wp_done c)
  iapply Hk
  iframe
  isplitl [P00 P01 P02]; · iapply (thirds c _ _).2; iframe
  isplitl [P10 P11 P12]; · iapply (thirds c _ _).2; iframe
  isplitl [P20 P21 P22]; · iapply (thirds c _ _).2; iframe
  iapply (thirds c _ _).2; iframe

end Z0

/-! ## At `z = 3` -/

section Z3
variable (p17 p21 p20 p19 p18 : Dev nD)

def z3Prog : Prog (TpuEff nD τ sig (Elt F) Λ₀ .tc) PUnit := do
  zSend (O 3) (B 3) p17 d17 d25
  zSend (O 3) (B 3) p21 d29 d33
  zWait (O 2) (B 2) d20
  zSend (O 2) (B 2) p20 d28 d32
  zWait (O 1) (B 1) d19
  zSend (O 1) (B 1) p19 d27 d31
  zWait (O 0) (B 0) d18
  zSend (O 0) (B 0) p18 d26 d30
  zWait (O 3) (B 3) d17
  zWait (O 3) (B 3) d29
  zWait (O 2) (B 2) d28
  zWait (O 1) (B 1) d27
  zWait (O 0) (B 0) d26
  pure ⟨⟩

def z3Pre (c : Dev nD) : sProp 𝕄 :=
  iprop(zgo c 17 ∗ zgo c 18 ∗ zgo c 19 ∗ zgo c 20 ∗ zgo c 21 ∗ rcv c d18 ∗ rcv c d19 ∗ rcv c d20
    ∗ oP c (prt (xc c) 3) fullShare (total X) ∗ owing c [17, 21, 20, 19, 18])
def z3Post (c : Dev nD) : sProp 𝕄 :=
  iprop(zero c d17 ∗ zero c d26 ∗ zero c d27 ∗ zero c d28 ∗ zero c d29 ∗ zero c d18 ∗ zero c d19 ∗ zero c d20 ∗ halfDone X c ∗ owing c [])

theorem ok_z3 : ∀ c : Dev nD, zc c = 3 → ok 17 c = true ∧ used c 18 = true ∧ used c 19 = true ∧ used c 20 = true := by decide +kernel
theorem lvl_z3 : ∀ c : Dev nD, zc c = 3 →
    (∀ s ∈ [20, 19, 18], lvlOf c (.dma d20) < lvlOf (peer s c) (key s)) ∧ (∀ s ∈ [19, 18], lvlOf c (.dma d19) < lvlOf (peer s c) (key s))
      ∧ ∀ s ∈ [18], lvlOf c (.dma d18) < lvlOf (peer s c) (key s) := by decide +kernel

theorem wp_z3 (c : Dev nD) (hz : zc c = 3) (hO : ∀ r, O r = ![2048 * xc c + 512 * r.val, 0])
    (h17 : p17 = zdn c) (h21 : p21 = xp c) (h20 : p20 = xp c) (h19 : p19 = xp c) (h18 : p18 = xp c) (Q : PUnit → sProp 𝕄) :
    world X ⊢ iprop(z3Pre X c -∗ (z3Post X c -∗ Q ⟨⟩) -∗ WP c (z3Prog O B p17 p21 p20 p19 p18) Q) := by
  obtain ⟨o17, u18, u19, u20⟩ := ok_z3 c hz
  obtain ⟨l20, l19, l18⟩ := lvl_z3 c hz
  unfold z3Pre z3Post z3Prog halfDone
  simp only [zSend, zWait, Prog.lift, Prog.bind_op, Prog.bind_ret, Prog.pure_eq_ret, Prog.bind_assoc]
  iintro #HW ⟨G17, G18, G19, G20, G21, R18', R19', R20', P3, HO⟩ Hk
  ihave P3 := (thirds c _ _).1 $$ P3
  icases P3 with ⟨P30, P31, P32⟩
  iapply (wp_zsend X c p17 17 d17 3 sh1 _ h17 (by decide) o17 rfl rfl rfl rfl rfl (hO 3)) $$ HW G17 HO P31; iintro ⟨R17, HO⟩
  iapply (wp_zsend X c p21 21 d29 3 sh2 _ h21 (by decide) rfl rfl rfl rfl rfl rfl (hO 3)) $$ HW G21 HO P32; iintro ⟨R21, HO⟩
  iapply (wp_zrecv X c _ d20 2 (by decide) (by decide) u20 rfl l20 rfl) $$ HW R20' HO; iintro ⟨Z20, ⟨P20, P21, P22⟩, HO⟩
  iapply (wp_zsend X c p20 20 d28 2 sh2 _ h20 (by decide) rfl rfl rfl rfl rfl rfl (hO 2)) $$ HW G20 HO P22; iintro ⟨R20, HO⟩
  iapply (wp_zrecv X c _ d19 1 (by decide) (by decide) u19 rfl l19 rfl) $$ HW R19' HO; iintro ⟨Z19, ⟨P10, P11, P12⟩, HO⟩
  iapply (wp_zsend X c p19 19 d27 1 sh2 _ h19 (by decide) rfl rfl rfl rfl rfl rfl (hO 1)) $$ HW G19 HO P12; iintro ⟨R19, HO⟩
  iapply (wp_zrecv X c _ d18 0 (by decide) (by decide) u18 rfl l18 rfl) $$ HW R18' HO; iintro ⟨Z18, ⟨P00, P01, P02⟩, HO⟩
  iapply (wp_zsend X c p18 18 d26 0 sh2 _ h18 (by decide) rfl rfl rfl rfl rfl rfl (hO 0)) $$ HW G18 HO P02; iintro ⟨R18, HO⟩
  iapply (wp_zdrain X c _ 17 d17 3 sh1 (by decide) o17 rfl rfl rfl rfl) $$ HW R17 HO; iintro ⟨Z17, P31, HO⟩
  iapply (wp_zdrain X c _ 21 d29 3 sh2 (by decide) rfl rfl rfl rfl rfl) $$ HW R21 HO; iintro ⟨Z29, P32, HO⟩
  iapply (wp_zdrain X c _ 20 d28 2 sh2 (by decide) rfl rfl rfl rfl rfl) $$ HW R20 HO; iintro ⟨Z28, P22, HO⟩
  iapply (wp_zdrain X c _ 19 d27 1 sh2 (by decide) rfl rfl rfl rfl rfl) $$ HW R19 HO; iintro ⟨Z27, P12, HO⟩
  iapply (wp_zdrain X c _ 18 d26 0 sh2 (by decide) rfl rfl rfl rfl rfl) $$ HW R18 HO; iintro ⟨Z26, P02, HO⟩
  iapply (wp_done c)
  iapply Hk
  iframe
  isplitl [P00 P01 P02]; · iapply (thirds c _ _).2; iframe
  isplitl [P10 P11 P12]; · iapply (thirds c _ _).2; iframe
  isplitl [P20 P21 P22]; · iapply (thirds c _ _).2; iframe
  iapply (thirds c _ _).2; iframe

end Z3

/-! ## At `z = 1` -/

section Z1
variable (p11 p15 p19 p10 p18 p16 p20 p17 p21 : Dev nD)

def z1Prog : Prog (TpuEff nD τ sig (Elt F) Λ₀ .tc) PUnit := do
  zSend (O 1) (B 1) p11 d11 d19
  zSend (O 1) (B 1) p15 d15 d23
  zSend (O 1) (B 1) p19 d27 d31
  zWait (O 0) (B 0) d18
  zSend (O 0) (B 0) p10 d10 d18
  zSend (O 0) (B 0) p18 d26 d30
  zWait (O 2) (B 2) d24
  zSend (O 2) (B 2) p16 d16 d24
  zSend (O 2) (B 2) p20 d28 d32
  zWait (O 3) (B 3) d25
  zSend (O 3) (B 3) p17 d17 d25
  zSend (O 3) (B 3) p21 d29 d33
  zWait (O 1) (B 1) d11
  zWait (O 1) (B 1) d15
  zWait (O 1) (B 1) d27
  zWait (O 0) (B 0) d10
  zWait (O 0) (B 0) d26
  zWait (O 2) (B 2) d16
  zWait (O 2) (B 2) d28
  zWait (O 3) (B 3) d17
  zWait (O 3) (B 3) d29
  pure ⟨⟩

def z1Pre (c : Dev nD) : sProp 𝕄 :=
  iprop(zgo c 10 ∗ zgo c 11 ∗ zgo c 15 ∗ zgo c 16 ∗ zgo c 17 ∗ zgo c 18 ∗ zgo c 19 ∗ zgo c 20 ∗ zgo c 21
    ∗ rcv c d18 ∗ rcv c d24 ∗ rcv c d25
    ∗ oP c (prt (xc c) 1) fullShare (total X) ∗ owing c [11, 15, 19, 10, 18, 16, 20, 17, 21])
def z1Post (c : Dev nD) : sProp 𝕄 :=
  iprop(zero c d10 ∗ zero c d11 ∗ zero c d15 ∗ zero c d16 ∗ zero c d17 ∗ zero c d26 ∗ zero c d27 ∗ zero c d28 ∗ zero c d29
    ∗ zero c d18 ∗ zero c d24 ∗ zero c d25 ∗ halfDone X c ∗ owing c [])

theorem ok_z1 : ∀ c : Dev nD, zc c = 1 → (ok 10 c = true ∧ ok 11 c = true ∧ ok 15 c = true ∧ ok 16 c = true ∧ ok 17 c = true)
    ∧ used c 18 = true ∧ used c 24 = true ∧ used c 25 = true := by decide +kernel
theorem lvl_z1 : ∀ c : Dev nD, zc c = 1 →
    (∀ s ∈ [10, 18, 16, 20, 17, 21], lvlOf c (.dma d18) < lvlOf (peer s c) (key s)) ∧ (∀ s ∈ [16, 20, 17, 21], lvlOf c (.dma d24) < lvlOf (peer s c) (key s))
      ∧ ∀ s ∈ [17, 21], lvlOf c (.dma d25) < lvlOf (peer s c) (key s) := by decide +kernel

theorem wp_z1 (c : Dev nD) (hz : zc c = 1) (hO : ∀ r, O r = ![2048 * xc c + 512 * r.val, 0])
    (h11 : p11 = zup c) (h15 : p15 = zdn c) (h19 : p19 = xp c) (h10 : p10 = zup c) (h18 : p18 = xp c)
    (h16 : p16 = zdn c) (h20 : p20 = xp c) (h17 : p17 = zdn c) (h21 : p21 = xp c) (Q : PUnit → sProp 𝕄) :
    world X ⊢ iprop(z1Pre X c -∗ (z1Post X c -∗ Q ⟨⟩) -∗ WP c (z1Prog O B p11 p15 p19 p10 p18 p16 p20 p17 p21) Q) := by
  obtain ⟨⟨o10, o11, o15, o16, o17⟩, u18, u24, u25⟩ := ok_z1 c hz
  obtain ⟨l18, l24, l25⟩ := lvl_z1 c hz
  unfold z1Pre z1Post z1Prog halfDone
  simp only [zSend, zWait, Prog.lift, Prog.bind_op, Prog.bind_ret, Prog.pure_eq_ret, Prog.bind_assoc]
  iintro #HW ⟨G10, G11, G15, G16, G17, G18, G19, G20, G21, R18', R24, R25, P1, HO⟩ Hk
  ihave P1 := (thirds c _ _).1 $$ P1
  icases P1 with ⟨P10, P11, P12⟩
  iapply (wp_zsend X c p11 11 d11 1 sh0 _ h11 (by decide) o11 rfl rfl rfl rfl rfl (hO 1)) $$ HW G11 HO P10; iintro ⟨R11, HO⟩
  iapply (wp_zsend X c p15 15 d15 1 sh1 _ h15 (by decide) o15 rfl rfl rfl rfl rfl (hO 1)) $$ HW G15 HO P11; iintro ⟨R15, HO⟩
  iapply (wp_zsend X c p19 19 d27 1 sh2 _ h19 (by decide) rfl rfl rfl rfl rfl rfl (hO 1)) $$ HW G19 HO P12; iintro ⟨R19, HO⟩
  iapply (wp_zrecv X c _ d18 0 (by decide) (by decide) u18 rfl l18 rfl) $$ HW R18' HO; iintro ⟨Z18, ⟨P00, P01, P02⟩, HO⟩
  iapply (wp_zsend X c p10 10 d10 0 sh0 _ h10 (by decide) o10 rfl rfl rfl rfl rfl (hO 0)) $$ HW G10 HO P00; iintro ⟨R10, HO⟩
  iapply (wp_zsend X c p18 18 d26 0 sh2 _ h18 (by decide) rfl rfl rfl rfl rfl rfl (hO 0)) $$ HW G18 HO P02; iintro ⟨R18, HO⟩
  iapply (wp_zrecv X c _ d24 2 (by decide) (by decide) u24 rfl l24 rfl) $$ HW R24 HO; iintro ⟨Z24, ⟨P20, P21, P22⟩, HO⟩
  iapply (wp_zsend X c p16 16 d16 2 sh1 _ h16 (by decide) o16 rfl rfl rfl rfl rfl (hO 2)) $$ HW G16 HO P21; iintro ⟨R16, HO⟩
  iapply (wp_zsend X c p20 20 d28 2 sh2 _ h20 (by decide) rfl rfl rfl rfl rfl rfl (hO 2)) $$ HW G20 HO P22; iintro ⟨R20, HO⟩
  iapply (wp_zrecv X c _ d25 3 (by decide) (by decide) u25 rfl l25 rfl) $$ HW R25 HO; iintro ⟨Z25, ⟨P30, P31, P32⟩, HO⟩
  iapply (wp_zsend X c p17 17 d17 3 sh1 _ h17 (by decide) o17 rfl rfl rfl rfl rfl (hO 3)) $$ HW G17 HO P31; iintro ⟨R17, HO⟩
  iapply (wp_zsend X c p21 21 d29 3 sh2 _ h21 (by decide) rfl rfl rfl rfl rfl rfl (hO 3)) $$ HW G21 HO P32; iintro ⟨R21, HO⟩
  iapply (wp_zdrain X c _ 11 d11 1 sh0 (by decide) o11 rfl rfl rfl rfl) $$ HW R11 HO; iintro ⟨Z11, P10, HO⟩
  iapply (wp_zdrain X c _ 15 d15 1 sh1 (by decide) o15 rfl rfl rfl rfl) $$ HW R15 HO; iintro ⟨Z15, P11, HO⟩
  iapply (wp_zdrain X c _ 19 d27 1 sh2 (by decide) rfl rfl rfl rfl rfl) $$ HW R19 HO; iintro ⟨Z27, P12, HO⟩
  iapply (wp_zdrain X c _ 10 d10 0 sh0 (by decide) o10 rfl rfl rfl rfl) $$ HW R10 HO; iintro ⟨Z10, P00, HO⟩
  iapply (wp_zdrain X c _ 18 d26 0 sh2 (by decide) rfl rfl rfl rfl rfl) $$ HW R18 HO; iintro ⟨Z26, P02, HO⟩
  iapply (wp_zdrain X c _ 16 d16 2 sh1 (by decide) o16 rfl rfl rfl rfl) $$ HW R16 HO; iintro ⟨Z16, P21, HO⟩
  iapply (wp_zdrain X c _ 20 d28 2 sh2 (by decide) rfl rfl rfl rfl rfl) $$ HW R20 HO; iintro ⟨Z28, P22, HO⟩
  iapply (wp_zdrain X c _ 17 d17 3 sh1 (by decide) o17 rfl rfl rfl rfl) $$ HW R17 HO; iintro ⟨Z17, P31, HO⟩
  iapply (wp_zdrain X c _ 21 d29 3 sh2 (by decide) rfl rfl rfl rfl rfl) $$ HW R21 HO; iintro ⟨Z29, P32, HO⟩
  iapply (wp_done c)
  iapply Hk
  iframe
  isplitl [P00 P01 P02]; · iapply (thirds c _ _).2; iframe
  isplitl [P10 P11 P12]; · iapply (thirds c _ _).2; iframe
  isplitl [P20 P21 P22]; · iapply (thirds c _ _).2; iframe
  iapply (thirds c _ _).2; iframe

end Z1

/-! ## At `z = 2` -/

section Z2
variable (p12 p16 p20 p11 p19 p10 p18 p17 p21 : Dev nD)

def z2Prog : Prog (TpuEff nD τ sig (Elt F) Λ₀ .tc) PUnit := do
  zSend (O 2) (B 2) p12 d12 d20
  zSend (O 2) (B 2) p16 d16 d24
  zSend (O 2) (B 2) p20 d28 d32
  zWait (O 1) (B 1) d19
  zSend (O 1) (B 1) p11 d11 d19
  zSend (O 1) (B 1) p19 d27 d31
  zWait (O 0) (B 0) d18
  zSend (O 0) (B 0) p10 d10 d18
  zSend (O 0) (B 0) p18 d26 d30
  zWait (O 3) (B 3) d25
  zSend (O 3) (B 3) p17 d17 d25
  zSend (O 3) (B 3) p21 d29 d33
  zWait (O 2) (B 2) d12
  zWait (O 2) (B 2) d16
  zWait (O 2) (B 2) d28
  zWait (O 1) (B 1) d11
  zWait (O 1) (B 1) d27
  zWait (O 0) (B 0) d10
  zWait (O 0) (B 0) d26
  zWait (O 3) (B 3) d17
  zWait (O 3) (B 3) d29
  pure ⟨⟩

def z2Pre (c : Dev nD) : sProp 𝕄 :=
  iprop(zgo c 10 ∗ zgo c 11 ∗ zgo c 12 ∗ zgo c 16 ∗ zgo c 17 ∗ zgo c 18 ∗ zgo c 19 ∗ zgo c 20 ∗ zgo c 21
    ∗ rcv c d18 ∗ rcv c d19 ∗ rcv c d25
    ∗ oP c (prt (xc c) 2) fullShare (total X) ∗ owing c [12, 16, 20, 11, 19, 10, 18, 17, 21])
def z2Post (c : Dev nD) : sProp 𝕄 :=
  iprop(zero c d10 ∗ zero c d11 ∗ zero c d12 ∗ zero c d16 ∗ zero c d17 ∗ zero c d26 ∗ zero c d27 ∗ zero c d28 ∗ zero c d29
    ∗ zero c d18 ∗ zero c d19 ∗ zero c d25 ∗ halfDone X c ∗ owing c [])

theorem ok_z2 : ∀ c : Dev nD, zc c = 2 → (ok 10 c = true ∧ ok 11 c = true ∧ ok 12 c = true ∧ ok 16 c = true ∧ ok 17 c = true)
    ∧ used c 18 = true ∧ used c 19 = true ∧ used c 25 = true := by decide +kernel
theorem lvl_z2 : ∀ c : Dev nD, zc c = 2 →
    (∀ s ∈ [11, 19, 10, 18, 17, 21], lvlOf c (.dma d19) < lvlOf (peer s c) (key s)) ∧ (∀ s ∈ [10, 18, 17, 21], lvlOf c (.dma d18) < lvlOf (peer s c) (key s))
      ∧ ∀ s ∈ [17, 21], lvlOf c (.dma d25) < lvlOf (peer s c) (key s) := by decide +kernel

theorem wp_z2 (c : Dev nD) (hz : zc c = 2) (hO : ∀ r, O r = ![2048 * xc c + 512 * r.val, 0])
    (h12 : p12 = zup c) (h16 : p16 = zdn c) (h20 : p20 = xp c) (h11 : p11 = zup c) (h19 : p19 = xp c)
    (h10 : p10 = zup c) (h18 : p18 = xp c) (h17 : p17 = zdn c) (h21 : p21 = xp c) (Q : PUnit → sProp 𝕄) :
    world X ⊢ iprop(z2Pre X c -∗ (z2Post X c -∗ Q ⟨⟩) -∗ WP c (z2Prog O B p12 p16 p20 p11 p19 p10 p18 p17 p21) Q) := by
  obtain ⟨⟨o10, o11, o12, o16, o17⟩, u18, u19, u25⟩ := ok_z2 c hz
  obtain ⟨l19, l18, l25⟩ := lvl_z2 c hz
  unfold z2Pre z2Post z2Prog halfDone
  simp only [zSend, zWait, Prog.lift, Prog.bind_op, Prog.bind_ret, Prog.pure_eq_ret, Prog.bind_assoc]
  iintro #HW ⟨G10, G11, G12, G16, G17, G18, G19, G20, G21, R18', R19', R25, P2, HO⟩ Hk
  ihave P2 := (thirds c _ _).1 $$ P2
  icases P2 with ⟨P20, P21, P22⟩
  iapply (wp_zsend X c p12 12 d12 2 sh0 _ h12 (by decide) o12 rfl rfl rfl rfl rfl (hO 2)) $$ HW G12 HO P20; iintro ⟨R12, HO⟩
  iapply (wp_zsend X c p16 16 d16 2 sh1 _ h16 (by decide) o16 rfl rfl rfl rfl rfl (hO 2)) $$ HW G16 HO P21; iintro ⟨R16, HO⟩
  iapply (wp_zsend X c p20 20 d28 2 sh2 _ h20 (by decide) rfl rfl rfl rfl rfl rfl (hO 2)) $$ HW G20 HO P22; iintro ⟨R20, HO⟩
  iapply (wp_zrecv X c _ d19 1 (by decide) (by decide) u19 rfl l19 rfl) $$ HW R19' HO; iintro ⟨Z19, ⟨P10, P11, P12⟩, HO⟩
  iapply (wp_zsend X c p11 11 d11 1 sh0 _ h11 (by decide) o11 rfl rfl rfl rfl rfl (hO 1)) $$ HW G11 HO P10; iintro ⟨R11, HO⟩
  iapply (wp_zsend X c p19 19 d27 1 sh2 _ h19 (by decide) rfl rfl rfl rfl rfl rfl (hO 1)) $$ HW G19 HO P12; iintro ⟨R19, HO⟩
  iapply (wp_zrecv X c _ d18 0 (by decide) (by decide) u18 rfl l18 rfl) $$ HW R18' HO; iintro ⟨Z18, ⟨P00, P01, P02⟩, HO⟩
  iapply (wp_zsend X c p10 10 d10 0 sh0 _ h10 (by decide) o10 rfl rfl rfl rfl rfl (hO 0)) $$ HW G10 HO P00; iintro ⟨R10, HO⟩
  iapply (wp_zsend X c p18 18 d26 0 sh2 _ h18 (by decide) rfl rfl rfl rfl rfl rfl (hO 0)) $$ HW G18 HO P02; iintro ⟨R18, HO⟩
  iapply (wp_zrecv X c _ d25 3 (by decide) (by decide) u25 rfl l25 rfl) $$ HW R25 HO; iintro ⟨Z25, ⟨P30, P31, P32⟩, HO⟩
  iapply (wp_zsend X c p17 17 d17 3 sh1 _ h17 (by decide) o17 rfl rfl rfl rfl rfl (hO 3)) $$ HW G17 HO P31; iintro ⟨R17, HO⟩
  iapply (wp_zsend X c p21 21 d29 3 sh2 _ h21 (by decide) rfl rfl rfl rfl rfl rfl (hO 3)) $$ HW G21 HO P32; iintro ⟨R21, HO⟩
  iapply (wp_zdrain X c _ 12 d12 2 sh0 (by decide) o12 rfl rfl rfl rfl) $$ HW R12 HO; iintro ⟨Z12, P20, HO⟩
  iapply (wp_zdrain X c _ 16 d16 2 sh1 (by decide) o16 rfl rfl rfl rfl) $$ HW R16 HO; iintro ⟨Z16, P21, HO⟩
  iapply (wp_zdrain X c _ 20 d28 2 sh2 (by decide) rfl rfl rfl rfl rfl) $$ HW R20 HO; iintro ⟨Z28, P22, HO⟩
  iapply (wp_zdrain X c _ 11 d11 1 sh0 (by decide) o11 rfl rfl rfl rfl) $$ HW R11 HO; iintro ⟨Z11, P10, HO⟩
  iapply (wp_zdrain X c _ 19 d27 1 sh2 (by decide) rfl rfl rfl rfl rfl) $$ HW R19 HO; iintro ⟨Z27, P12, HO⟩
  iapply (wp_zdrain X c _ 10 d10 0 sh0 (by decide) o10 rfl rfl rfl rfl) $$ HW R10 HO; iintro ⟨Z10, P00, HO⟩
  iapply (wp_zdrain X c _ 18 d26 0 sh2 (by decide) rfl rfl rfl rfl rfl) $$ HW R18 HO; iintro ⟨Z26, P02, HO⟩
  iapply (wp_zdrain X c _ 17 d17 3 sh1 (by decide) o17 rfl rfl rfl rfl) $$ HW R17 HO; iintro ⟨Z17, P31, HO⟩
  iapply (wp_zdrain X c _ 21 d29 3 sh2 (by decide) rfl rfl rfl rfl rfl) $$ HW R21 HO; iintro ⟨Z29, P32, HO⟩
  iapply (wp_done c)
  iapply Hk
  iframe
  isplitl [P00 P01 P02]; · iapply (thirds c _ _).2; iframe
  isplitl [P10 P11 P12]; · iapply (thirds c _ _).2; iframe
  isplitl [P20 P21 P22]; · iapply (thirds c _ _).2; iframe
  iapply (thirds c _ _).2; iframe

end Z2

end Cert.AllReduce

end
-- ==== Proof.Program.lean ====
/-
# The kernel's body, piece by piece

The printed body is cut into windows of statements at places that mean nothing. Here it is put together again from the
pieces the proof reasons about: the barrier, the copies along `y` of the four places along `y`, the copies along `z`
and across `x` of the four places along `z`, and the last waits.
-/
module

public import proofs.«01_k».proof.Proof.Middle
public import proofs.«01_k».proof.Proof.Half

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of a device. -/
abbrev Pg (F : FTy → Type) (α : Type) : Type _ := Prog (TpuEff nD τ sig (Elt F) Λ₀ .tc) α

/-- A conditional piece of a program, and what follows it. -/
def orNot {α : Type} (p : Prop) [Decidable p] (A : p → Pg F PUnit) (k : Pg F α) : Pg F α :=
  if h : p then A h >>= fun _ => k else k

theorem wp_taken {α : Type} (c : Dev nD) {p : Prop} [Decidable p] {A : p → Pg F PUnit} {k : Pg F α} (Q : α → sProp 𝕄) (h : p) :
    WP c (A h) (fun _ => WP c k Q) ⊢ WP c (orNot p A k) Q := by
  unfold orNot; rw [dif_pos h]; exact Entails.of_eq (wp_seq c _ _ Q).symm
theorem wp_skipped {α : Type} (c : Dev nD) {p : Prop} [Decidable p] {A : p → Pg F PUnit} {k : Pg F α} (Q : α → sProp 𝕄) (h : ¬ p) :
    WP c k Q ⊢ WP c (orNot p A k) Q := by
  unfold orNot; rw [dif_neg h]

theorem hx : (xM).IsWhole := Memref.isWhole_whole _
theorem ho : (oM).IsWhole := Memref.isWhole_whole _
theorem hp : (pM).IsWhole := Memref.isWhole_whole _

section
variable (c : Dev nD)

/-! ## Along `y` -/

def y0Piece (h : k0_cond9 c = 1#1) : Pg F PUnit :=
  outerProg (k0_off1 c 0#32) (k0_off1 c 256#32) (k0_off1_inb c h 0) (k0_off1_inb c h 1) ⟨k0_dev6 c, k0_dev6_lt c h⟩ ⟨k0_dev7 c, k0_dev7_lt c h⟩
def y1Piece (h : k0_cond10 c = 1#1) : Pg F PUnit :=
  middleProg (k0_off2 c 0#32) (k0_off2 c 256#32) (k0_off3 c 0#32) (k0_off3 c 256#32) (k0_off2_inb c h 0) (k0_off2_inb c h 1)
    (k0_off3_inb c h 0) (k0_off3_inb c h 1) ⟨k0_dev8 c, k0_dev8_lt c h⟩ ⟨k0_dev9 c, k0_dev9_lt c h⟩ ⟨k0_dev10 c, k0_dev10_lt c h⟩ ⟨k0_dev11 c, k0_dev11_lt c h⟩
def y2Piece (h : k0_cond11 c = 1#1) : Pg F PUnit :=
  middleProg (k0_off4 c 256#32) (k0_off4 c 0#32) (k0_off5 c 256#32) (k0_off5 c 0#32) (k0_off4_inb c h 1) (k0_off4_inb c h 0)
    (k0_off5_inb c h 1) (k0_off5_inb c h 0) ⟨k0_dev12 c, k0_dev12_lt c h⟩ ⟨k0_dev13 c, k0_dev13_lt c h⟩ ⟨k0_dev14 c, k0_dev14_lt c h⟩ ⟨k0_dev15 c, k0_dev15_lt c h⟩
def y3Piece (h : k0_cond12 c = 1#1) : Pg F PUnit :=
  outerProg (k0_off6 c 256#32) (k0_off6 c 0#32) (k0_off6_inb c h 1) (k0_off6_inb c h 0) ⟨k0_dev16 c, k0_dev16_lt c h⟩ ⟨k0_dev17 c, k0_dev17_lt c h⟩

/-! ## Along `z` and across `x` -/

def z0Piece (h : k0_cond13 c = 1#1) : Pg F PUnit :=
  z0Prog (fun r => k0_off7 c (BitVec.ofNat 32 r.val)) (k0_off7_inb c h) ⟨k0_dev18 c, k0_dev18_lt c h⟩ ⟨k0_dev19 c, k0_dev19_lt c h⟩
    ⟨k0_dev20 c, k0_dev20_lt c h⟩ ⟨k0_dev21 c, k0_dev21_lt c h⟩ ⟨k0_dev22 c, k0_dev22_lt c h⟩
def z1Piece (h : k0_cond14 c = 1#1) : Pg F PUnit :=
  z1Prog (fun r => k0_off8 c (BitVec.ofNat 32 r.val)) (k0_off8_inb c h) ⟨k0_dev23 c, k0_dev23_lt c h⟩ ⟨k0_dev24 c, k0_dev24_lt c h⟩
    ⟨k0_dev25 c, k0_dev25_lt c h⟩ ⟨k0_dev26 c, k0_dev26_lt c h⟩ ⟨k0_dev27 c, k0_dev27_lt c h⟩ ⟨k0_dev28 c, k0_dev28_lt c h⟩
    ⟨k0_dev29 c, k0_dev29_lt c h⟩ ⟨k0_dev30 c, k0_dev30_lt c h⟩ ⟨k0_dev31 c, k0_dev31_lt c h⟩
def z2Piece (h : k0_cond15 c = 1#1) : Pg F PUnit :=
  z2Prog (fun r => k0_off9 c (BitVec.ofNat 32 r.val)) (k0_off9_inb c h) ⟨k0_dev32 c, k0_dev32_lt c h⟩ ⟨k0_dev33 c, k0_dev33_lt c h⟩
    ⟨k0_dev34 c, k0_dev34_lt c h⟩ ⟨k0_dev35 c, k0_dev35_lt c h⟩ ⟨k0_dev36 c, k0_dev36_lt c h⟩ ⟨k0_dev37 c, k0_dev37_lt c h⟩
    ⟨k0_dev38 c, k0_dev38_lt c h⟩ ⟨k0_dev39 c, k0_dev39_lt c h⟩ ⟨k0_dev40 c, k0_dev40_lt c h⟩
def z3Piece (h : k0_cond16 c = 1#1) : Pg F PUnit :=
  z3Prog (fun r => k0_off10 c (BitVec.ofNat 32 r.val)) (k0_off10_inb c h) ⟨k0_dev41 c, k0_dev41_lt c h⟩ ⟨k0_dev42 c, k0_dev42_lt c h⟩
    ⟨k0_dev43 c, k0_dev43_lt c h⟩ ⟨k0_dev44 c, k0_dev44_lt c h⟩ ⟨k0_dev45 c, k0_dev45_lt c h⟩

/-! ## The printed windows are these pieces -/

variable (v2 v5 v8 v11 v12 : BitVec 32)

/-- The middle of the body, after the place `y = 0`. -/
def spreadProg {α : Type} (k : Pg F α) : Pg F α :=
  orNot _ (y1Piece c) <| orNot _ (y2Piece c) <| orNot _ (y3Piece c) <|
    orNot _ (z0Piece c) <| orNot _ (z1Piece c) <| orNot _ (z2Piece c) <| orNot _ (z3Piece c) k

set_option maxRecDepth 65536 in
theorem part43_eq : k0_part43 (F := F) xM hx oM ho pM hp cc0_scratch1 cc0_scratch2 cc0_scratch3 cc0_scratch4 cc0_scratch5 cc0_scratch6 c v2 v5 v8 v11 v12
    = spreadProg c (pure ⟨Scalar.addi (Scalar.addi 0#32 (Scalar.muli v2 16#32)) (Scalar.muli v5 4#32), Scalar.muli v8 1#32⟩) := rfl

/-- Whether a coordinate is a middle one, as a word, and whether both coordinates are as given. -/
def midWord (v : BitVec 32) : BitVec 32 := Scalar.extui (Scalar.ori (Scalar.cmpi .eq v 1#32) (Scalar.cmpi .eq v 2#32))
def bothWord (a b : BitVec 32) : BitVec 1 :=
  Scalar.cmpi .ne (Scalar.extui (Scalar.andi (Scalar.cmpi .eq (midWord v5) a) (Scalar.cmpi .eq (midWord v8) b)) : BitVec 32) 0#32

set_option maxRecDepth 65536 in
theorem part42_eq : k0_part42 (F := F) xM hx oM ho pM hp cc0_scratch1 cc0_scratch2 cc0_scratch3 cc0_scratch4 cc0_scratch5 cc0_scratch6 c v2 v5 v8 v11
      (SemArray.scalar (sig.barrier 0 rfl))
    = (orNot (bothWord v5 v8 0#32 0#32 = 1#1) (fun _ => semWaitWord barrier0 3#32) <|
      orNot (bothWord v5 v8 1#32 0#32 = 1#1) (fun _ => semWaitWord barrier0 4#32) <|
      orNot (bothWord v5 v8 0#32 1#32 = 1#1) (fun _ => semWaitWord barrier0 4#32) <|
      orNot (bothWord v5 v8 1#32 1#32 = 1#1) (fun _ => semWaitWord barrier0 5#32) <|
      orNot _ (y0Piece c) (pure ⟨⟩)) := rfl

/-- The coordinates of a device, as the words the kernel computes. -/
def wx : BitVec 32 := Scalar.remsi (Scalar.divsi (Dev.word c) 16#32) 2#32
def wy : BitVec 32 := Scalar.remsi (Scalar.divsi (Dev.word c) 4#32) 4#32
def wz : BitVec 32 := Scalar.remsi (Scalar.divsi (Dev.word c) 1#32) 4#32
def wpart : BitVec 32 := Scalar.muli (Scalar.addi (Scalar.muli (wx c) 4#32) (wz c)) 512#32

set_option maxRecDepth 65536 in
theorem part41_eq : k0_part41 (F := F) xM hx oM ho pM hp cc0_scratch1 cc0_scratch2 cc0_scratch3 cc0_scratch4 cc0_scratch5 cc0_scratch6
    = (Prog.lift .deviceId >>= fun c =>
      orNot _ (fun h : k0_cond1 c = 1#1 => semSignalWord (⟨k0_dev1 c, k0_dev1_lt c h⟩ : Dev nD) barrier0 1#32) <|
      orNot _ (fun h : k0_cond2 c = 1#1 => semSignalWord (⟨k0_dev2 c, k0_dev2_lt c h⟩ : Dev nD) barrier0 1#32) <|
      orNot _ (fun h : k0_cond3 c = 1#1 => semSignalWord (⟨k0_dev3 c, k0_dev3_lt c h⟩ : Dev nD) barrier0 1#32) <|
      orNot _ (fun h : k0_cond4 c = 1#1 => semSignalWord (⟨k0_dev4 c, k0_dev4_lt c h⟩ : Dev nD) barrier0 1#32) <|
      semSignalWord (⟨k0_dev5 c, k0_dev5_lt c⟩ : Dev nD) barrier0 1#32 >>= fun _ =>
      pure ⟨c, wx c, wy c, wz c, wpart c, Scalar.subi 1#32 (wx c), SemArray.scalar (sig.barrier 0 rfl)⟩) := rfl

/-- A wait for a part of the other half. -/
def xWait (o : Fin 1 → ℕ) (ob : ∀ a, o a + S1.size a ≤ S4.size a) (off : Fin 2 → ℕ) (inb : ∀ a, off a + S512x1024.size a ≤ S4096x1024.size a) : Pg F PUnit :=
  Prog.lift (.waitDma2 ((cc0_scratch6.slice (Rect.unit (s := S4) o S1.size ob)).squeeze S_ squeezes_S1_S_).sem
    (rowsM oM 512 off inb) (rowsM oM 512 off inb) (View.wordExact_bits rfl) (View.wordExact_bits rfl))

/-- The last waits: first for the device's own place along `z`, then for those below, nearest first, and for those above. -/
def lastProg : Pg F PUnit :=
  xWait (k0_off11 c) (k0_off11_inb c) (k0_off12 c) (k0_off12_inb c) >>= fun _ =>
    orNot _ (fun h : k0_cond17 c = 1#1 => xWait (k0_off13 c) (k0_off13_inb c h) (k0_off14 c) (k0_off14_inb c h)) <|
    orNot _ (fun h : k0_cond18 c = 1#1 => xWait (k0_off15 c) (k0_off15_inb c h) (k0_off16 c) (k0_off16_inb c h)) <|
    orNot _ (fun h : k0_cond19 c = 1#1 => xWait (k0_off17 c) (k0_off17_inb c h) (k0_off18 c) (k0_off18_inb c h)) <|
    orNot _ (fun h : k0_cond20 c = 1#1 => xWait (k0_off19 c) (k0_off19_inb c h) (k0_off20 c) (k0_off20_inb c h)) <|
    orNot _ (fun h : k0_cond21 c = 1#1 => xWait (k0_off21 c) (k0_off21_inb c h) (k0_off22 c) (k0_off22_inb c h)) <|
    orNot _ (fun h : k0_cond22 c = 1#1 => xWait (k0_off23 c) (k0_off23_inb c h) (k0_off24 c) (k0_off24_inb c h)) <|
    pure ⟨⟩

set_option maxRecDepth 65536 in
theorem body_eq : cc0_body (F := F) xM hx oM ho pM hp cc0_scratch1 cc0_scratch2 cc0_scratch3 cc0_scratch4 cc0_scratch5 cc0_scratch6
    = (k0_part41 xM hx oM ho pM hp cc0_scratch1 cc0_scratch2 cc0_scratch3 cc0_scratch4 cc0_scratch5 cc0_scratch6 >>= fun a =>
      k0_part42 xM hx oM ho pM hp cc0_scratch1 cc0_scratch2 cc0_scratch3 cc0_scratch4 cc0_scratch5 cc0_scratch6 a.1 a.2.1 a.2.2.1 a.2.2.2.1 a.2.2.2.2.1
        a.2.2.2.2.2.2 >>= fun _ =>
      k0_part43 xM hx oM ho pM hp cc0_scratch1 cc0_scratch2 cc0_scratch3 cc0_scratch4 cc0_scratch5 cc0_scratch6 a.1 a.2.1 a.2.2.1 a.2.2.2.1 a.2.2.2.2.1
        a.2.2.2.2.2.1 >>= fun _ => lastProg a.1) := rfl

end

end Cert.AllReduce

end
-- ==== Proof.Along.lean ====
/-
# The copies along `y`, at any place along `y`

Whichever of the four places a device has, its copies along `y` leave it the sum on its own part, and every one of the
eight semaphores of these copies at zero: those its place does not use were never credited.
-/
module

public import proofs.«01_k».proof.Proof.Program

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## Semaphores before their use is known -/

/-- A receive semaphore, credited if the device's place has a sender for it. -/
def rrdy (c : Dev nD) (i : DmaSem sig) : sProp 𝕄 :=
  iprop(atPos ER (cell c (.dma i)) 0 ∅ 0 ∗ (if used c i.val = true then cred (tallyAt (cell c (.dma i)) () (amt (.dma i))) else emp))

theorem rrdy_on (c : Dev nD) (i : DmaSem sig) (h : used c i.val = true) : (rrdy c i : sProp 𝕄) ⊢ rcv c i := by
  unfold rrdy rcv; rw [if_pos h]
theorem rrdy_off (c : Dev nD) (i : DmaSem sig) (h2 : 2 ≤ i.val) (h : used c i.val = false) :
    world X ⊢ iprop(rrdy c i -∗ |={Set.univ}=> zero c i) := by
  unfold rrdy
  iintro #HW ⟨Hat, -⟩
  iapply (close_unused X c i h2 h)
  isplitr; · iexact HW
  iexact Hat
theorem snd_off (c : Dev nD) (i : DmaSem sig) (h2 : 2 ≤ i.val) (h : used c i.val = false) :
    world X ⊢ iprop(snd c i -∗ |={Set.univ}=> zero c i) := by
  unfold snd
  iintro #HW ⟨Hat, -⟩
  iapply (close_unused X c i h2 h)
  isplitr; · iexact HW
  iexact Hat

/-! ## Before and after -/

/-- What the neighbours along `y` let a device write, -/
def yGot (c : Dev nD) : sProp 𝕄 :=
  if mid c = true then iprop(pH (ymir c) 1 ∗ oH (ypair c) (rows (near c) 256) ∗ oH (ypair c) (rows (far c) 256))
  else iprop(pH (ypair c) 2 ∗ pH (ypair c) 0)
/-- and what it keeps of its own buffers. -/
def yKept (c : Dev nD) : sProp 𝕄 :=
  if mid c = true then iprop(oH c (rows (near c) 256) ∗ oH c (rows (far c) 256)) else iprop(pH c 0 ∗ pH c 1 ∗ pH c 2)

def yStart (c : Dev nD) (l : List (Fin 22)) : sProp 𝕄 :=
  iprop(snd c d2 ∗ snd c d3 ∗ snd c d4 ∗ snd c d5 ∗ rrdy c d6 ∗ rrdy c d7 ∗ rrdy c d8 ∗ rrdy c d9
    ∗ ptok c 5 ∗ ptok c 6 ∗ ptok c 7 ∗ ptok c 8 ∗ ptok c 9
    ∗ xP c (rows (near c) 256) (X c) ∗ xP c (rows (far c) 256) (X c) ∗ yKept c ∗ yGot c ∗ owing c (yOrd (yc c) ++ l))
def yDone (c : Dev nD) (l : List (Fin 22)) : sProp 𝕄 :=
  iprop(zero c d2 ∗ zero c d3 ∗ zero c d4 ∗ zero c d5 ∗ zero c d6 ∗ zero c d7 ∗ zero c d8 ∗ zero c d9
    ∗ xP c (rows (near c) 256) (X c) ∗ xP c (rows (far c) 256) (X c)
    ∗ oP c (rows (near c) 256) fullShare (total X) ∗ oP c (rows (far c) 256) fullShare (total X)
    ∗ pH c 0 ∗ pH c 1 ∗ pH c 2 ∗ owing c l)

theorem yOrd_outer : ∀ c : Dev nD, mid c = false → yOrd (yc c) = [8, 5] := by decide +kernel
theorem yOrd_middle : ∀ c : Dev nD, mid c = true → yOrd (yc c) = [6, 5, 9, 7] := by decide +kernel
theorem unused_outer : ∀ c : Dev nD, mid c = false →
    used c 4 = false ∧ used c 5 = false ∧ used c 8 = false ∧ used c 9 = false := by decide +kernel

/-! ## An outer device, a middle device -/

section Outer
variable (offN offF : Fin 2 → ℕ) (inbN : ∀ a, offN a + S256x1024.size a ≤ S4096x1024.size a)
  (inbF : ∀ a, offF a + S256x1024.size a ≤ S4096x1024.size a) (n₁ n₂ : Dev nD)

theorem wp_yOuter (c : Dev nD) (l : List (Fin 22)) (hm : mid c = false) (hN : offN = ![near c, 0]) (hF : offF = ![far c, 0])
    (h₁ : n₁ = ypair c) (h₂ : n₂ = ypair c) (hl : ∀ s ∈ l, 5 < lvlOf (peer s c) (key s)) (Q : PUnit → sProp 𝕄) :
    world X ⊢ iprop(yStart X c l -∗ (yDone X c l -∗ Q ⟨⟩) -∗ WP c (outerProg offN offF inbN inbF n₁ n₂) Q) := by
  obtain ⟨u4, u5, u8, u9⟩ := unused_outer c hm
  unfold yStart yDone yKept yGot
  rw [yOrd_outer c hm, if_neg (by rw [hm]; decide), if_neg (by rw [hm]; decide)]
  iintro #HW ⟨S2, S3, S4, S5, R6, R7, R8, R9, T5, T6, T7, T8, T9, XN, XF, ⟨P0, P1, P2⟩, ⟨Q2, Q0⟩, HO⟩ Hk
  imod (snd_off X c d4 (by decide) u4) $$ HW S4 with Z4
  imod (snd_off X c d5 (by decide) u5) $$ HW S5 with Z5
  imod (rrdy_off X c d8 (by decide) u8) $$ HW R8 with Z8
  imod (rrdy_off X c d9 (by decide) u9) $$ HW R9 with Z9
  ihave R6 := (rrdy_on c d6 rfl) $$ R6
  ihave R7 := (rrdy_on c d7 rfl) $$ R7
  iapply (wp_outer X offN offF inbN inbF n₁ n₂ c l hm hN hF h₁ h₂ hl Q) $$ HW [S2 S3 R6 R7 T8 T5 XN XF Q2 Q0 HO]
  · unfold outerPre; iframe; iexact HO
  unfold outerPost
  iintro ⟨Z2, Z3, Z6, Z7, XN, XF, ON, OF, HO⟩
  iapply Hk
  iframe

end Outer

section Middle
variable (offN offF sndN sndF : Fin 2 → ℕ) (inbN : ∀ a, offN a + S256x1024.size a ≤ S4096x1024.size a)
  (inbF : ∀ a, offF a + S256x1024.size a ≤ S4096x1024.size a) (snbN : ∀ a, sndN a + S256x1024.size a ≤ S4096x1024.size a)
  (snbF : ∀ a, sndF a + S256x1024.size a ≤ S4096x1024.size a) (n₁ n₂ n₃ n₄ : Dev nD)

theorem wp_yMiddle (c : Dev nD) (l : List (Fin 22)) (hm : mid c = true) (hN : offN = ![near c, 0]) (hF : offF = ![far c, 0])
    (gN : sndN = ![near c, 0]) (gF : sndF = ![far c, 0])
    (h₁ : n₁ = ymir c) (h₂ : n₂ = ypair c) (h₃ : n₃ = ymir c) (h₄ : n₄ = ypair c)
    (hl : ∀ s ∈ l, 5 < lvlOf (peer s c) (key s)) (Q : PUnit → sProp 𝕄) :
    world X ⊢ iprop(yStart X c l -∗ (yDone X c l -∗ Q ⟨⟩)
      -∗ WP c (middleProg offN offF sndN sndF inbN inbF snbN snbF n₁ n₂ n₃ n₄) Q) := by
  unfold yStart yDone yKept yGot
  rw [yOrd_middle c hm, if_pos hm, if_pos hm]
  iintro #HW ⟨S2, S3, S4, S5, R6, R7, R8, R9, T5, T6, T7, T8, T9, XN, XF, ⟨ON, OF⟩, ⟨Q1, QN, QF⟩, HO⟩ Hk
  ihave R6 := (rrdy_on c d6 rfl) $$ R6
  ihave R7 := (rrdy_on c d7 rfl) $$ R7
  ihave R8 := (rrdy_on c d8 (used_mid c hm 8 (by decide) (by decide))) $$ R8
  ihave R9 := (rrdy_on c d9 (used_mid c hm 9 (by decide) (by decide))) $$ R9
  iapply (wp_middle X offN offF sndN sndF inbN inbF snbN snbF n₁ n₂ n₃ n₄ c l hm hN hF gN gF h₁ h₂ h₃ h₄ hl Q)
    $$ HW [S2 S3 S4 S5 R6 R7 R8 R9 T6 T5 T9 T7 XN XF ON OF QN QF Q1 HO]
  · unfold middlePre; iframe; iexact HO
  unfold middlePost
  iintro ⟨Z2, Z3, Z4, Z5, Z6, Z7, Z8, Z9, XN, XF, ON, OF, P0, P1, P2, HO⟩
  iapply Hk
  iframe

end Middle

/-! ## Any place -/

theorem at_y : ∀ c : Dev nD, (k0_cond9 c = 1#1 ↔ yc c = 0) ∧ (k0_cond10 c = 1#1 ↔ yc c = 1) ∧ (k0_cond11 c = 1#1 ↔ yc c = 2)
    ∧ (k0_cond12 c = 1#1 ↔ yc c = 3) := by decide +kernel
theorem yc_lt : ∀ c : Dev nD, yc c = 0 ∨ yc c = 1 ∨ yc c = 2 ∨ yc c = 3 := by decide +kernel

theorem facts_y0 : ∀ c : Dev nD, yc c = 0 → mid c = false ∧ k0_off1 c 0#32 = ![near c, 0] ∧ k0_off1 c 256#32 = ![far c, 0]
    ∧ k0_dev6 c = (ypair c).val ∧ k0_dev7 c = (ypair c).val := by decide +kernel
theorem facts_y3 : ∀ c : Dev nD, yc c = 3 → mid c = false ∧ k0_off6 c 256#32 = ![near c, 0] ∧ k0_off6 c 0#32 = ![far c, 0]
    ∧ k0_dev16 c = (ypair c).val ∧ k0_dev17 c = (ypair c).val := by decide +kernel
theorem facts_y1 : ∀ c : Dev nD, yc c = 1 → mid c = true
    ∧ (k0_off2 c 0#32 = ![near c, 0] ∧ k0_off2 c 256#32 = ![far c, 0] ∧ k0_off3 c 0#32 = ![near c, 0] ∧ k0_off3 c 256#32 = ![far c, 0])
    ∧ k0_dev8 c = (ymir c).val ∧ k0_dev9 c = (ypair c).val ∧ k0_dev10 c = (ymir c).val ∧ k0_dev11 c = (ypair c).val := by decide +kernel
theorem facts_y2 : ∀ c : Dev nD, yc c = 2 → mid c = true
    ∧ (k0_off4 c 256#32 = ![near c, 0] ∧ k0_off4 c 0#32 = ![far c, 0] ∧ k0_off5 c 256#32 = ![near c, 0] ∧ k0_off5 c 0#32 = ![far c, 0])
    ∧ k0_dev12 c = (ymir c).val ∧ k0_dev13 c = (ypair c).val ∧ k0_dev14 c = (ymir c).val ∧ k0_dev15 c = (ypair c).val := by decide +kernel

/-- The copies along `y`, at any place. -/
theorem wp_along (c : Dev nD) (l : List (Fin 22)) (hl : ∀ s ∈ l, 5 < lvlOf (peer s c) (key s)) {α : Type} (k : Pg F α) (Q : α → sProp 𝕄) :
    world X ⊢ iprop(yStart X c l -∗ (yDone X c l -∗ WP c k Q)
      -∗ WP c (orNot _ (y0Piece c) (pure PUnit.unit : Pg F PUnit)) (fun _ => WP c (orNot _ (y1Piece c) <| orNot _ (y2Piece c) <| orNot _ (y3Piece c) k) Q)) := by
  obtain ⟨e0, e1, e2, e3⟩ := at_y c
  iintro #HW HS Hk
  rcases yc_lt c with h | h | h | h
  · obtain ⟨hm, hN, hF, h₁, h₂⟩ := facts_y0 c h
    iapply (wp_taken c _ (e0.2 h))
    iapply (wp_yOuter X _ _ _ _ _ _ c l hm hN hF (Fin.ext h₁) (Fin.ext h₂) hl) $$ HW HS
    iintro HD
    iapply (wp_done c)
    iapply (wp_skipped c _ (by rw [e1, h]; decide))
    iapply (wp_skipped c _ (by rw [e2, h]; decide))
    iapply (wp_skipped c _ (by rw [e3, h]; decide))
    iapply Hk; iexact HD
  · obtain ⟨hm, ⟨hN, hF, gN, gF⟩, h₁, h₂, h₃, h₄⟩ := facts_y1 c h
    iapply (wp_skipped c _ (by rw [e0, h]; decide))
    iapply (wp_done c)
    iapply (wp_taken c _ (e1.2 h))
    iapply (wp_yMiddle X _ _ _ _ _ _ _ _ _ _ _ _ c l hm hN hF gN gF (Fin.ext h₁) (Fin.ext h₂) (Fin.ext h₃) (Fin.ext h₄) hl) $$ HW HS
    iintro HD
    iapply (wp_skipped c _ (by rw [e2, h]; decide))
    iapply (wp_skipped c _ (by rw [e3, h]; decide))
    iapply Hk; iexact HD
  · obtain ⟨hm, ⟨hN, hF, gN, gF⟩, h₁, h₂, h₃, h₄⟩ := facts_y2 c h
    iapply (wp_skipped c _ (by rw [e0, h]; decide))
    iapply (wp_done c)
    iapply (wp_skipped c _ (by rw [e1, h]; decide))
    iapply (wp_taken c _ (e2.2 h))
    iapply (wp_yMiddle X _ _ _ _ _ _ _ _ _ _ _ _ c l hm hN hF gN gF (Fin.ext h₁) (Fin.ext h₂) (Fin.ext h₃) (Fin.ext h₄) hl) $$ HW HS
    iintro HD
    iapply (wp_skipped c _ (by rw [e3, h]; decide))
    iapply Hk; iexact HD
  · obtain ⟨hm, hN, hF, h₁, h₂⟩ := facts_y3 c h
    iapply (wp_skipped c _ (by rw [e0, h]; decide))
    iapply (wp_done c)
    iapply (wp_skipped c _ (by rw [e1, h]; decide))
    iapply (wp_skipped c _ (by rw [e2, h]; decide))
    iapply (wp_taken c _ (e3.2 h))
    iapply (wp_yOuter X _ _ _ _ _ _ c l hm hN hF (Fin.ext h₁) (Fin.ext h₂) hl) $$ HW HS
    iintro HD
    iapply Hk; iexact HD

end Cert.AllReduce

end
-- ==== Proof.Around.lean ====
/-
# The copies along `z` and across `x`, at any place along `z`

Whichever of the four places along `z` a device has, its copies along `z` and across `x` leave it the sum on its whole
half, and the twenty semaphores of these copies at zero.
-/
module

public import proofs.«01_k».proof.Proof.Along

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## Before and after -/

/-- A port along `z` or across `x` before its use is known: its send semaphore, its token, and the neighbour's rows if
    the device's place has that copy. -/
def zrdy (c : Dev nD) (s : Fin 22) : sProp 𝕄 :=
  iprop(snd c (zsem s) ∗ ptok c s ∗ (if ok s c = true then oH (peer s c) (prt (xc c) (zo s)) else emp))

theorem zrdy_on (c : Dev nD) (s : Fin 22) (h : ok s c = true) : (zrdy c s : sProp 𝕄) ⊢ zgo c s := by
  unfold zrdy zgo; rw [if_pos h]
theorem zrdy_off (c : Dev nD) (s : Fin 22) (i : DmaSem sig) (hs : 10 ≤ s.val) (hi : zsem s = i) (h : ok s c = false) :
    world X ⊢ iprop(zrdy c s -∗ |={Set.univ}=> zero c i) := by
  subst hi
  have hv : (zsem s).val = if s.val < 18 then s.val else s.val + 8 := rfl
  unfold zrdy
  iintro #HW ⟨Hs, -, -⟩
  iapply (snd_off X c (zsem s) (by rw [hv]; split <;> omega) ((used_z s c hs).trans h)) $$ HW Hs

def zStart (c : Dev nD) : sProp 𝕄 :=
  iprop((zrdy c 10 ∗ zrdy c 11 ∗ zrdy c 12 ∗ zrdy c 13 ∗ zrdy c 14 ∗ zrdy c 15 ∗ zrdy c 16 ∗ zrdy c 17
      ∗ zrdy c 18 ∗ zrdy c 19 ∗ zrdy c 20 ∗ zrdy c 21)
    ∗ (rrdy c d18 ∗ rrdy c d19 ∗ rrdy c d20 ∗ rrdy c d21 ∗ rrdy c d22 ∗ rrdy c d23 ∗ rrdy c d24 ∗ rrdy c d25)
    ∗ oP c (prt (xc c) (zc c)) fullShare (total X) ∗ owing c (zOrd (zc c)))
def zDone (c : Dev nD) : sProp 𝕄 :=
  iprop((zero c d10 ∗ zero c d11 ∗ zero c d12 ∗ zero c d13 ∗ zero c d14 ∗ zero c d15 ∗ zero c d16 ∗ zero c d17
      ∗ zero c d18 ∗ zero c d19 ∗ zero c d20 ∗ zero c d21 ∗ zero c d22 ∗ zero c d23 ∗ zero c d24 ∗ zero c d25
      ∗ zero c d26 ∗ zero c d27 ∗ zero c d28 ∗ zero c d29)
    ∗ halfDone X c ∗ owing c [])

/-! ## What each place knows of its offsets, neighbours and unused semaphores -/

theorem at_z : ∀ c : Dev nD, (k0_cond13 c = 1#1 ↔ zc c = 0) ∧ (k0_cond14 c = 1#1 ↔ zc c = 1) ∧ (k0_cond15 c = 1#1 ↔ zc c = 2)
    ∧ (k0_cond16 c = 1#1 ↔ zc c = 3) := by decide +kernel
theorem zc_lt : ∀ c : Dev nD, zc c = 0 ∨ zc c = 1 ∨ zc c = 2 ∨ zc c = 3 := by decide +kernel

theorem facts_z0 : ∀ c : Dev nD, zc c = 0 → (∀ r : Fin 4, k0_off7 c (BitVec.ofNat 32 r.val) = ![2048 * xc c + 512 * r.val, 0])
    ∧ k0_dev18 c = (zup c).val ∧ k0_dev19 c = (xp c).val ∧ k0_dev20 c = (xp c).val ∧ k0_dev21 c = (xp c).val ∧ k0_dev22 c = (xp c).val := by
  decide +kernel
theorem facts_z1 : ∀ c : Dev nD, zc c = 1 → (∀ r : Fin 4, k0_off8 c (BitVec.ofNat 32 r.val) = ![2048 * xc c + 512 * r.val, 0])
    ∧ k0_dev23 c = (zup c).val ∧ k0_dev24 c = (zdn c).val ∧ k0_dev25 c = (xp c).val ∧ k0_dev26 c = (zup c).val ∧ k0_dev27 c = (xp c).val
    ∧ k0_dev28 c = (zdn c).val ∧ k0_dev29 c = (xp c).val ∧ k0_dev30 c = (zdn c).val ∧ k0_dev31 c = (xp c).val := by
  decide +kernel
theorem facts_z2 : ∀ c : Dev nD, zc c = 2 → (∀ r : Fin 4, k0_off9 c (BitVec.ofNat 32 r.val) = ![2048 * xc c + 512 * r.val, 0])
    ∧ k0_dev32 c = (zup c).val ∧ k0_dev33 c = (zdn c).val ∧ k0_dev34 c = (xp c).val ∧ k0_dev35 c = (zup c).val ∧ k0_dev36 c = (xp c).val
    ∧ k0_dev37 c = (zup c).val ∧ k0_dev38 c = (xp c).val ∧ k0_dev39 c = (zdn c).val ∧ k0_dev40 c = (xp c).val := by
  decide +kernel
theorem facts_z3 : ∀ c : Dev nD, zc c = 3 → (∀ r : Fin 4, k0_off10 c (BitVec.ofNat 32 r.val) = ![2048 * xc c + 512 * r.val, 0])
    ∧ k0_dev41 c = (zdn c).val ∧ k0_dev42 c = (xp c).val ∧ k0_dev43 c = (xp c).val ∧ k0_dev44 c = (xp c).val ∧ k0_dev45 c = (xp c).val := by
  decide +kernel

theorem off_z0 : ∀ c : Dev nD, zc c = 0 → (∀ s ∈ ([11, 12, 13, 14, 15, 16, 17] : List (Fin 22)), ok s c = false)
    ∧ ∀ i ∈ [18, 19, 20, 21, 22], used c i = false := by decide +kernel
theorem off_z1 : ∀ c : Dev nD, zc c = 1 → (∀ s ∈ ([12, 13, 14] : List (Fin 22)), ok s c = false)
    ∧ ∀ i ∈ [19, 20, 21, 22, 23], used c i = false := by decide +kernel
theorem off_z2 : ∀ c : Dev nD, zc c = 2 → (∀ s ∈ ([13, 14, 15] : List (Fin 22)), ok s c = false)
    ∧ ∀ i ∈ [20, 21, 22, 23, 24], used c i = false := by decide +kernel
theorem off_z3 : ∀ c : Dev nD, zc c = 3 → (∀ s ∈ ([10, 11, 12, 13, 14, 15, 16] : List (Fin 22)), ok s c = false)
    ∧ ∀ i ∈ [21, 22, 23, 24, 25], used c i = false := by decide +kernel

/-! ## The four places -/

theorem wp_place0 (c : Dev nD) (h : zc c = 0) (hc : k0_cond13 c = 1#1) (Q : PUnit → sProp 𝕄) :
    world X ⊢ iprop(zStart X c -∗ (zDone X c -∗ Q ⟨⟩) -∗ WP c (z0Piece c hc) Q) := by
  obtain ⟨hO, h10, h18, h19, h20, h21⟩ := facts_z0 c h
  obtain ⟨os, ur⟩ := off_z0 c h
  obtain ⟨o10, u23, u24, u25⟩ := ok_z0 c h
  unfold zStart zDone z0Piece
  rw [h]
  iintro #HW ⟨⟨S10, S11, S12, S13, S14, S15, S16, S17, S18, S19, S20, S21⟩, ⟨R18, R19, R20, R21, R22, R23, R24, R25⟩, P, HO⟩ Hk
  imod (zrdy_off X c 11 d11 (by decide) rfl (os 11 (by decide))) $$ HW S11 with Z11
  imod (zrdy_off X c 12 d12 (by decide) rfl (os 12 (by decide))) $$ HW S12 with Z12
  imod (zrdy_off X c 13 d13 (by decide) rfl (os 13 (by decide))) $$ HW S13 with Z13
  imod (zrdy_off X c 14 d14 (by decide) rfl (os 14 (by decide))) $$ HW S14 with Z14
  imod (zrdy_off X c 15 d15 (by decide) rfl (os 15 (by decide))) $$ HW S15 with Z15
  imod (zrdy_off X c 16 d16 (by decide) rfl (os 16 (by decide))) $$ HW S16 with Z16
  imod (zrdy_off X c 17 d17 (by decide) rfl (os 17 (by decide))) $$ HW S17 with Z17
  imod (rrdy_off X c d18 (by decide) (ur 18 (by decide))) $$ HW R18 with Z18
  imod (rrdy_off X c d19 (by decide) (ur 19 (by decide))) $$ HW R19 with Z19
  imod (rrdy_off X c d20 (by decide) (ur 20 (by decide))) $$ HW R20 with Z20
  imod (rrdy_off X c d21 (by decide) (ur 21 (by decide))) $$ HW R21 with Z21
  imod (rrdy_off X c d22 (by decide) (ur 22 (by decide))) $$ HW R22 with Z22
  ihave S10 := (zrdy_on c 10 o10) $$ S10
  ihave S18 := (zrdy_on c 18 rfl) $$ S18
  ihave S19 := (zrdy_on c 19 rfl) $$ S19
  ihave S20 := (zrdy_on c 20 rfl) $$ S20
  ihave S21 := (zrdy_on c 21 rfl) $$ S21
  ihave R23 := (rrdy_on c d23 u23) $$ R23
  ihave R24 := (rrdy_on c d24 u24) $$ R24
  ihave R25 := (rrdy_on c d25 u25) $$ R25
  iapply (wp_z0 X _ _ _ _ _ _ _ c h hO (Fin.ext h10) (Fin.ext h18) (Fin.ext h19) (Fin.ext h20) (Fin.ext h21) Q)
    $$ HW [S10 S18 S19 S20 S21 R23 R24 R25 P HO]
  · unfold z0Pre; iframe; iexact HO
  unfold z0Post
  iintro ⟨Z10, Z26, Z27, Z28, Z29, Z23, Z24, Z25, HD, HO⟩
  iapply Hk
  iframe

theorem wp_place3 (c : Dev nD) (h : zc c = 3) (hc : k0_cond16 c = 1#1) (Q : PUnit → sProp 𝕄) :
    world X ⊢ iprop(zStart X c -∗ (zDone X c -∗ Q ⟨⟩) -∗ WP c (z3Piece c hc) Q) := by
  obtain ⟨hO, h17, h21, h20, h19, h18⟩ := facts_z3 c h
  obtain ⟨os, ur⟩ := off_z3 c h
  obtain ⟨o17, u18, u19, u20⟩ := ok_z3 c h
  unfold zStart zDone z3Piece
  rw [h]
  iintro #HW ⟨⟨S10, S11, S12, S13, S14, S15, S16, S17, S18, S19, S20, S21⟩, ⟨R18, R19, R20, R21, R22, R23, R24, R25⟩, P, HO⟩ Hk
  imod (zrdy_off X c 10 d10 (by decide) rfl (os 10 (by decide))) $$ HW S10 with Z10
  imod (zrdy_off X c 11 d11 (by decide) rfl (os 11 (by decide))) $$ HW S11 with Z11
  imod (zrdy_off X c 12 d12 (by decide) rfl (os 12 (by decide))) $$ HW S12 with Z12
  imod (zrdy_off X c 13 d13 (by decide) rfl (os 13 (by decide))) $$ HW S13 with Z13
  imod (zrdy_off X c 14 d14 (by decide) rfl (os 14 (by decide))) $$ HW S14 with Z14
  imod (zrdy_off X c 15 d15 (by decide) rfl (os 15 (by decide))) $$ HW S15 with Z15
  imod (zrdy_off X c 16 d16 (by decide) rfl (os 16 (by decide))) $$ HW S16 with Z16
  imod (rrdy_off X c d21 (by decide) (ur 21 (by decide))) $$ HW R21 with Z21
  imod (rrdy_off X c d22 (by decide) (ur 22 (by decide))) $$ HW R22 with Z22
  imod (rrdy_off X c d23 (by decide) (ur 23 (by decide))) $$ HW R23 with Z23
  imod (rrdy_off X c d24 (by decide) (ur 24 (by decide))) $$ HW R24 with Z24
  imod (rrdy_off X c d25 (by decide) (ur 25 (by decide))) $$ HW R25 with Z25
  ihave S17 := (zrdy_on c 17 o17) $$ S17
  ihave S18 := (zrdy_on c 18 rfl) $$ S18
  ihave S19 := (zrdy_on c 19 rfl) $$ S19
  ihave S20 := (zrdy_on c 20 rfl) $$ S20
  ihave S21 := (zrdy_on c 21 rfl) $$ S21
  ihave R18 := (rrdy_on c d18 u18) $$ R18
  ihave R19 := (rrdy_on c d19 u19) $$ R19
  ihave R20 := (rrdy_on c d20 u20) $$ R20
  iapply (wp_z3 X _ _ _ _ _ _ _ c h hO (Fin.ext h17) (Fin.ext h21) (Fin.ext h20) (Fin.ext h19) (Fin.ext h18) Q)
    $$ HW [S17 S18 S19 S20 S21 R18 R19 R20 P HO]
  · unfold z3Pre; iframe; iexact HO
  unfold z3Post
  iintro ⟨Z17, Z26, Z27, Z28, Z29, Z18, Z19, Z20, HD, HO⟩
  iapply Hk
  iframe

theorem wp_place1 (c : Dev nD) (h : zc c = 1) (hc : k0_cond14 c = 1#1) (Q : PUnit → sProp 𝕄) :
    world X ⊢ iprop(zStart X c -∗ (zDone X c -∗ Q ⟨⟩) -∗ WP c (z1Piece c hc) Q) := by
  obtain ⟨hO, h11, h15, h19, h10, h18, h16, h20, h17, h21⟩ := facts_z1 c h
  obtain ⟨os, ur⟩ := off_z1 c h
  obtain ⟨⟨o10, o11, o15, o16, o17⟩, u18, u24, u25⟩ := ok_z1 c h
  unfold zStart zDone z1Piece
  rw [h]
  iintro #HW ⟨⟨S10, S11, S12, S13, S14, S15, S16, S17, S18, S19, S20, S21⟩, ⟨R18, R19, R20, R21, R22, R23, R24, R25⟩, P, HO⟩ Hk
  imod (zrdy_off X c 12 d12 (by decide) rfl (os 12 (by decide))) $$ HW S12 with Z12
  imod (zrdy_off X c 13 d13 (by decide) rfl (os 13 (by decide))) $$ HW S13 with Z13
  imod (zrdy_off X c 14 d14 (by decide) rfl (os 14 (by decide))) $$ HW S14 with Z14
  imod (rrdy_off X c d19 (by decide) (ur 19 (by decide))) $$ HW R19 with Z19
  imod (rrdy_off X c d20 (by decide) (ur 20 (by decide))) $$ HW R20 with Z20
  imod (rrdy_off X c d21 (by decide) (ur 21 (by decide))) $$ HW R21 with Z21
  imod (rrdy_off X c d22 (by decide) (ur 22 (by decide))) $$ HW R22 with Z22
  imod (rrdy_off X c d23 (by decide) (ur 23 (by decide))) $$ HW R23 with Z23
  ihave S10 := (zrdy_on c 10 o10) $$ S10
  ihave S11 := (zrdy_on c 11 o11) $$ S11
  ihave S15 := (zrdy_on c 15 o15) $$ S15
  ihave S16 := (zrdy_on c 16 o16) $$ S16
  ihave S17 := (zrdy_on c 17 o17) $$ S17
  ihave S18 := (zrdy_on c 18 rfl) $$ S18
  ihave S19 := (zrdy_on c 19 rfl) $$ S19
  ihave S20 := (zrdy_on c 20 rfl) $$ S20
  ihave S21 := (zrdy_on c 21 rfl) $$ S21
  ihave R18 := (rrdy_on c d18 u18) $$ R18
  ihave R24 := (rrdy_on c d24 u24) $$ R24
  ihave R25 := (rrdy_on c d25 u25) $$ R25
  iapply (wp_z1 X _ _ _ _ _ _ _ _ _ _ _ c h hO (Fin.ext h11) (Fin.ext h15) (Fin.ext h19) (Fin.ext h10) (Fin.ext h18) (Fin.ext h16)
      (Fin.ext h20) (Fin.ext h17) (Fin.ext h21) Q)
    $$ HW [S10 S11 S15 S16 S17 S18 S19 S20 S21 R18 R24 R25 P HO]
  · unfold z1Pre; iframe; iexact HO
  unfold z1Post
  iintro ⟨Z10, Z11, Z15, Z16, Z17, Z26, Z27, Z28, Z29, Z18, Z24, Z25, HD, HO⟩
  iapply Hk
  iframe

theorem wp_place2 (c : Dev nD) (h : zc c = 2) (hc : k0_cond15 c = 1#1) (Q : PUnit → sProp 𝕄) :
    world X ⊢ iprop(zStart X c -∗ (zDone X c -∗ Q ⟨⟩) -∗ WP c (z2Piece c hc) Q) := by
  obtain ⟨hO, h12, h16, h20, h11, h19, h10, h18, h17, h21⟩ := facts_z2 c h
  obtain ⟨os, ur⟩ := off_z2 c h
  obtain ⟨⟨o10, o11, o12, o16, o17⟩, u18, u19, u25⟩ := ok_z2 c h
  unfold zStart zDone z2Piece
  rw [h]
  iintro #HW ⟨⟨S10, S11, S12, S13, S14, S15, S16, S17, S18, S19, S20, S21⟩, ⟨R18, R19, R20, R21, R22, R23, R24, R25⟩, P, HO⟩ Hk
  imod (zrdy_off X c 13 d13 (by decide) rfl (os 13 (by decide))) $$ HW S13 with Z13
  imod (zrdy_off X c 14 d14 (by decide) rfl (os 14 (by decide))) $$ HW S14 with Z14
  imod (zrdy_off X c 15 d15 (by decide) rfl (os 15 (by decide))) $$ HW S15 with Z15
  imod (rrdy_off X c d20 (by decide) (ur 20 (by decide))) $$ HW R20 with Z20
  imod (rrdy_off X c d21 (by decide) (ur 21 (by decide))) $$ HW R21 with Z21
  imod (rrdy_off X c d22 (by decide) (ur 22 (by decide))) $$ HW R22 with Z22
  imod (rrdy_off X c d23 (by decide) (ur 23 (by decide))) $$ HW R23 with Z23
  imod (rrdy_off X c d24 (by decide) (ur 24 (by decide))) $$ HW R24 with Z24
  ihave S10 := (zrdy_on c 10 o10) $$ S10
  ihave S11 := (zrdy_on c 11 o11) $$ S11
  ihave S12 := (zrdy_on c 12 o12) $$ S12
  ihave S16 := (zrdy_on c 16 o16) $$ S16
  ihave S17 := (zrdy_on c 17 o17) $$ S17
  ihave S18 := (zrdy_on c 18 rfl) $$ S18
  ihave S19 := (zrdy_on c 19 rfl) $$ S19
  ihave S20 := (zrdy_on c 20 rfl) $$ S20
  ihave S21 := (zrdy_on c 21 rfl) $$ S21
  ihave R18 := (rrdy_on c d18 u18) $$ R18
  ihave R19 := (rrdy_on c d19 u19) $$ R19
  ihave R25 := (rrdy_on c d25 u25) $$ R25
  iapply (wp_z2 X _ _ _ _ _ _ _ _ _ _ _ c h hO (Fin.ext h12) (Fin.ext h16) (Fin.ext h20) (Fin.ext h11) (Fin.ext h19) (Fin.ext h10)
      (Fin.ext h18) (Fin.ext h17) (Fin.ext h21) Q)
    $$ HW [S10 S11 S12 S16 S17 S18 S19 S20 S21 R18 R19 R25 P HO]
  · unfold z2Pre; iframe; iexact HO
  unfold z2Post
  iintro ⟨Z10, Z11, Z12, Z16, Z17, Z26, Z27, Z28, Z29, Z18, Z19, Z25, HD, HO⟩
  iapply Hk
  iframe

/-! ## Any place -/

/-- The copies along `z` and across `x`, at any place. -/
theorem wp_around (c : Dev nD) {α : Type} (k : Pg F α) (Q : α → sProp 𝕄) :
    world X ⊢ iprop(zStart X c -∗ (zDone X c -∗ WP c k Q)
      -∗ WP c (orNot _ (z0Piece c) <| orNot _ (z1Piece c) <| orNot _ (z2Piece c) <| orNot _ (z3Piece c) k) Q) := by
  obtain ⟨e0, e1, e2, e3⟩ := at_z c
  iintro #HW HS Hk
  rcases zc_lt c with h | h | h | h
  · iapply (wp_taken c _ (e0.2 h))
    iapply (wp_place0 X c h (e0.2 h)) $$ HW HS
    iintro HD
    iapply (wp_skipped c _ (by rw [e1, h]; decide))
    iapply (wp_skipped c _ (by rw [e2, h]; decide))
    iapply (wp_skipped c _ (by rw [e3, h]; decide))
    iapply Hk; iexact HD
  · iapply (wp_skipped c _ (by rw [e0, h]; decide))
    iapply (wp_taken c _ (e1.2 h))
    iapply (wp_place1 X c h (e1.2 h)) $$ HW HS
    iintro HD
    iapply (wp_skipped c _ (by rw [e2, h]; decide))
    iapply (wp_skipped c _ (by rw [e3, h]; decide))
    iapply Hk; iexact HD
  · iapply (wp_skipped c _ (by rw [e0, h]; decide))
    iapply (wp_skipped c _ (by rw [e1, h]; decide))
    iapply (wp_taken c _ (e2.2 h))
    iapply (wp_place2 X c h (e2.2 h)) $$ HW HS
    iintro HD
    iapply (wp_skipped c _ (by rw [e3, h]; decide))
    iapply Hk; iexact HD
  · iapply (wp_skipped c _ (by rw [e0, h]; decide))
    iapply (wp_skipped c _ (by rw [e1, h]; decide))
    iapply (wp_skipped c _ (by rw [e2, h]; decide))
    iapply (wp_taken c _ (e3.2 h))
    iapply (wp_place3 X c h (e3.2 h)) $$ HW HS
    iintro HD
    iapply Hk; iexact HD

end Cert.AllReduce

end
-- ==== Proof.Gifts.lean ====
/-
# Buffers cut into parts, and the parts given to neighbours

A device's result block is the eight parts of its two halves, its own part once more cut in two; the landing buffer is
three slots. At the barrier the device gives the neighbours the parts and slots they will write.
-/
module

public import proofs.«01_k».proof.Proof.Around

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## Ranges of rows -/

theorem rows_union (a n b m : ℕ) (h : b = a + n) : rows a n ∪ rows b m = rows a (n + m) := by
  subst h; ext i; simp only [Finset.mem_union, mem_rows]; omega
theorem rows_disjoint (a n b m : ℕ) (h : a + n ≤ b) : Disjoint (rows a n) (rows b m) :=
  Finset.disjoint_left.2 fun i h₁ h₂ => by rw [mem_rows] at h₁ h₂; omega

/-- Two ranges next to each other are one. -/
theorem oP_rows (c : Dev nD) (a n b m : ℕ) (h : b = a + n) (q) (f : Blk F) :
    oP c (rows a (n + m)) q f ⊣⊢ iprop(oP c (rows a n) q f ∗ oP c (rows b m) q f) := by
  rw [← rows_union a n b m h]; unfold oP
  exact pointsTo_union (rows_disjoint a n b m (by omega))
theorem xP_rows (c : Dev nD) (a n b m : ℕ) (h : b = a + n) (f : Blk F) :
    xP c (rows a (n + m)) f ⊣⊢ iprop(xP c (rows a n) f ∗ xP c (rows b m) f) := by
  rw [← rows_union a n b m h]; unfold xP
  exact pointsTo_union (rows_disjoint a n b m (by omega))

theorem halves_at : ∀ c : Dev nD, (near c = lo c ∧ far c = lo c + 256) ∨ (far c = lo c ∧ near c = lo c + 256) := by decide +kernel

/-- A device's own part is its two halves. -/
theorem oP_own (c : Dev nD) (q) (f : Blk F) :
    oP c (prt (xc c) (zc c)) q f ⊣⊢ iprop(oP c (rows (near c) 256) q f ∗ oP c (rows (far c) 256) q f) := by
  rcases halves_at c with ⟨h, h'⟩ | ⟨h, h'⟩ <;> rw [h, h']
  · exact oP_rows c (lo c) 256 _ 256 rfl q f
  · exact ⟨(oP_rows c (lo c) 256 _ 256 rfl q f).1.trans sep_comm.1, sep_comm.1.trans (oP_rows c (lo c) 256 _ 256 rfl q f).2⟩
theorem xP_own (c : Dev nD) (f : Blk F) :
    xP c (rows (lo c) 512) f ⊣⊢ iprop(xP c (rows (near c) 256) f ∗ xP c (rows (far c) 256) f) := by
  rcases halves_at c with ⟨h, h'⟩ | ⟨h, h'⟩ <;> rw [h, h']
  · exact xP_rows c (lo c) 256 _ 256 rfl f
  · exact ⟨(xP_rows c (lo c) 256 _ 256 rfl f).1.trans sep_comm.1, sep_comm.1.trans (xP_rows c (lo c) 256 _ 256 rfl f).2⟩

/-- The four parts of half `x`. -/
def oHalf (c : Dev nD) (x : ℕ) (q : PosShare TreeShare) (f : Blk F) : sProp 𝕄 :=
  iprop(oP c (prt x 0) q f ∗ oP c (prt x 1) q f ∗ oP c (prt x 2) q f ∗ oP c (prt x 3) q f)

theorem oP_half (c : Dev nD) (x : ℕ) (q) (f : Blk F) : oP c (rows (2048 * x) 2048) q f ⊣⊢ oHalf c x q f := by
  have h₁ := oP_rows c (2048 * x) 512 (2048 * x + 512 * 1) 1536 rfl q f
  have h₂ := oP_rows c (2048 * x + 512 * 1) 512 (2048 * x + 512 * 2) 1024 (by omega) q f
  have h₃ := oP_rows c (2048 * x + 512 * 2) 512 (2048 * x + 512 * 3) 512 (by omega) q f
  unfold oHalf
  constructor
  · iintro H
    ihave H := h₁.1 $$ H
    icases H with ⟨H0, H⟩
    ihave H := h₂.1 $$ H
    icases H with ⟨H1, H⟩
    ihave H := h₃.1 $$ H
    icases H with ⟨H2, H3⟩
    iframe
  · iintro ⟨H0, H1, H2, H3⟩
    iapply h₁.2
    isplitl [H0]; · iexact H0
    iapply h₂.2
    isplitl [H1]; · iexact H1
    iapply h₃.2
    iframe

theorem rows_all : rows 0 4096 = Finset.univ := by
  ext i
  have h : (i 0).val < 4096 := (i 0).isLt
  simp only [mem_rows, Finset.mem_univ, iff_true]; omega

theorem xc_lt (c : Dev nD) : xc c = 0 ∨ xc c = 1 := by revert c; decide +kernel

/-- The whole block is a device's own half and the other. -/
theorem oP_all (c : Dev nD) (q) (f : Blk F) : oP c Finset.univ q f ⊣⊢ iprop(oHalf c (xc c) q f ∗ oHalf c (1 - xc c) q f) := by
  have h := oP_rows c (2048 * 0) 2048 (2048 * 1) 2048 rfl q f
  rw [show rows (2048 * 0) (2048 + 2048) = Finset.univ from rows_all] at h
  have h' : oP c Finset.univ q f ⊣⊢ iprop(oHalf c 0 q f ∗ oHalf c 1 q f) := by
    constructor
    · iintro H
      ihave H := h.1 $$ H
      icases H with ⟨H0, H1⟩
      isplitl [H0]
      · iapply (oP_half c 0 q f).1; iexact H0
      · iapply (oP_half c 1 q f).1; iexact H1
    · iintro ⟨H0, H1⟩
      iapply h.2
      isplitl [H0]
      · iapply (oP_half c 0 q f).2; iexact H0
      · iapply (oP_half c 1 q f).2; iexact H1
  rcases xc_lt c with e | e <;> rw [e]
  · exact h'
  · exact ⟨h'.1.trans sep_comm.1, sep_comm.1.trans h'.2⟩

/-- The staged source block: the device's own part, and the rest. -/
theorem xP_all (c : Dev nD) (f : Blk F) :
    xP c Finset.univ f ⊣⊢ iprop((xP c (rows (near c) 256) f ∗ xP c (rows (far c) 256) f) ∗ xP c (Finset.univ \ rows (lo c) 512) f) := by
  have h : xP c Finset.univ f ⊣⊢ iprop(xP c (rows (lo c) 512) f ∗ xP c (Finset.univ \ rows (lo c) 512) f) := by
    unfold xP; exact pointsTo_split_subset (Finset.subset_univ _)
  constructor
  · iintro H
    ihave H := h.1 $$ H
    icases H with ⟨H0, H1⟩
    ihave H0 := (xP_own c f).1 $$ H0
    iframe
  · iintro ⟨H0, H1⟩
    iapply h.2
    ihave H0 := (xP_own c f).2 $$ H0
    iframe

/-! ## The landing buffer -/

/-- The landing buffer, held whole at unknown contents. -/
def pAll (c : Dev nD) : sProp 𝕄 :=
  iprop(∃ f : (cc0_scratch0 : Ref sig .tc).ty.Contents (Elt F), ((c : Thread nD τ).loc cc0_scratch0) ↦[Finset.univ]{fullShare} (f : Buf (Elt F) ((c : Thread nD τ).loc cc0_scratch0)))

theorem slots_all : slot 0 ∪ (slot 1 ∪ slot 2) = Finset.univ := by
  ext i
  have h : (i 0).val < 3 := (i 0).isLt
  simp only [Finset.mem_union, mem_slot, Finset.mem_univ, iff_true]; omega
theorem slots_disjoint (s t : ℕ) (h : s ≠ t) : Disjoint (slot s) (slot t) :=
  Finset.disjoint_left.2 fun i h₁ h₂ => by rw [mem_slot] at h₁ h₂; omega
theorem slot0_rest : Disjoint (slot 0) (slot 1 ∪ slot 2) :=
  Finset.disjoint_union_right.2 ⟨slots_disjoint _ _ (by decide), slots_disjoint _ _ (by decide)⟩

theorem pAll_open (c : Dev nD) : pAll (F := F) c ⊢ iprop(pH c 0 ∗ pH c 1 ∗ pH c 2) := by
  unfold pAll pH pP
  rw [← slots_all]
  iintro ⟨%f, H⟩
  ihave H := (pointsTo_union slot0_rest).1 $$ H
  icases H with ⟨H0, H⟩
  ihave H := (pointsTo_union (slots_disjoint 1 2 (by decide))).1 $$ H
  icases H with ⟨H1, H2⟩
  isplitl [H0]; · iexists f; iexact H0
  isplitl [H1]; · iexists f; iexact H1
  iexists f; iexact H2
theorem pAll_close (c : Dev nD) : iprop(pH c 0 ∗ pH c 1 ∗ pH c 2) ⊢ pAll (F := F) c := by
  unfold pAll pH pP
  rw [← slots_all]
  iintro ⟨⟨%f, H0⟩, ⟨%g, H1⟩, ⟨%h, H2⟩⟩
  ihave H := (pointsTo_join (ℓ := (c : Thread nD τ).loc cc0_scratch0) (slots_disjoint 1 2 (by decide))) $$ [H1 H2]
  · isplitl [H1]; · iexact H1
    iexact H2
  ihave H := (pointsTo_join (ℓ := (c : Thread nD τ).loc cc0_scratch0) slot0_rest) $$ [H0 H]
  · isplitl [H0]; · iexact H0
    iexact H
  iexists _; iexact H

/-! ## What a device gives at the barrier -/

/-- What a port of the barrier carries, if the device has that neighbour. -/
def gift (c : Dev nD) (s : Fin 22) : sProp 𝕄 := if ok s c = true then barPay (peer s c) (duty s) else iprop(emp)

theorem oH_of (c : Dev nD) (S) (f : Blk F) : oP c S fullShare f ⊢ oH c S := by
  unfold oH; iintro H; iexists f; iexact H

theorem facts_gift : ∀ c : Dev nD,
    (nbrOf (duty 0) (peer 0 c) = c ∧ nbrOf (duty 1) (peer 1 c) = c ∧ nbrOf (duty 2) (peer 2 c) = c ∧ nbrOf (duty 3) (peer 3 c) = c ∧ nbrOf (duty 4) (peer 4 c) = c)
      ∧ xc (peer 2 c) = xc c ∧ xc (peer 3 c) = xc c ∧ xc (peer 4 c) = 1 - xc c := by decide +kernel
theorem facts_gift_z : ∀ c : Dev nD, (zc (peer 2 c) = if zc c = 3 then 0 else zc c + 1) ∧ (zc (peer 3 c) = if zc c = 0 then 3 else zc c - 1) := by
  decide +kernel

theorem gift_2 (c : Dev nD) : gift (F := F) c 2 = if ok 2 c = true then allow c (xc c) (fun z => zc (peer 2 c) ≤ z) else iprop(emp) := by
  obtain ⟨⟨_, _, h, _, _⟩, h2, _, _⟩ := facts_gift c
  unfold gift barPay; rw [if_pos (show (duty 2).val = 2 by decide), h, h2]
theorem gift_3 (c : Dev nD) : gift (F := F) c 3 = if ok 3 c = true then allow c (xc c) (fun z => z ≤ zc (peer 3 c)) else iprop(emp) := by
  obtain ⟨⟨_, _, _, h, _⟩, _, h3, _⟩ := facts_gift c
  unfold gift barPay; rw [if_neg (show ¬ (duty 3).val = 2 by decide), if_pos (show (duty 3).val = 3 by decide), h, h3]
theorem gift_4 (c : Dev nD) : gift (F := F) c 4 = allow c (1 - xc c) (fun _ => true) := by
  obtain ⟨⟨_, _, _, _, h⟩, _, _, h4⟩ := facts_gift c
  unfold gift barPay; rw [if_neg (show ¬ (duty 4).val = 2 by decide), if_neg (show ¬ (duty 4).val = 3 by decide), if_pos (show (duty 4).val = 4 by decide), h, h4]; rfl
theorem gift_y (c : Dev nD) (s : Fin 22) (hs : s = 0 ∨ s = 1) : gift (F := F) c s = if ok s c = true then yGive (peer s c) c else iprop(emp) := by
  obtain ⟨⟨h0, h1, _, _, _⟩, _, _, _⟩ := facts_gift c
  unfold gift barPay
  rcases hs with rfl | rfl
  · rw [if_neg (show ¬ (duty 0).val = 2 by decide), if_neg (show ¬ (duty 0).val = 3 by decide), if_neg (show ¬ (duty 0).val = 4 by decide), h0]
  · rw [if_neg (show ¬ (duty 1).val = 2 by decide), if_neg (show ¬ (duty 1).val = 3 by decide), if_neg (show ¬ (duty 1).val = 4 by decide), h1]

/-- The parts of its own half, but its own part, go along `z`; -/
theorem gifts_z (c : Dev nD) (f : Blk F) :
    oHalf c (xc c) fullShare f ⊢ iprop(gift c 2 ∗ gift c 3 ∗ oP c (prt (xc c) (zc c)) fullShare f) := by
  obtain ⟨e2, e3⟩ := facts_gift_z c
  have o2 : ok 2 c = decide (zc c < 3) := rfl
  have o3 : ok 3 c = decide (0 < zc c) := rfl
  rw [gift_2, gift_3, e2, e3, o2, o3]
  unfold oHalf allow
  iintro ⟨H0, H1, H2, H3⟩
  rcases zc_lt c with h | h | h | h <;> rw [h] <;> simp
  · ihave H1 := (oH_of c _ f) $$ H1; ihave H2 := (oH_of c _ f) $$ H2; ihave H3 := (oH_of c _ f) $$ H3; iframe; (repeat (isplitr; · iempintro)); try iempintro
  · ihave H0 := (oH_of c _ f) $$ H0; ihave H2 := (oH_of c _ f) $$ H2; ihave H3 := (oH_of c _ f) $$ H3; iframe; (repeat (isplitr; · iempintro)); try iempintro
  · ihave H0 := (oH_of c _ f) $$ H0; ihave H1 := (oH_of c _ f) $$ H1; ihave H3 := (oH_of c _ f) $$ H3; iframe; (repeat (isplitr; · iempintro)); try iempintro
  · ihave H0 := (oH_of c _ f) $$ H0; ihave H1 := (oH_of c _ f) $$ H1; ihave H2 := (oH_of c _ f) $$ H2; iframe; (repeat (isplitr; · iempintro)); try iempintro

/-- the other half goes across `x`; -/
theorem gifts_x (c : Dev nD) (f : Blk F) : oHalf c (1 - xc c) fullShare f ⊢ gift c 4 := by
  rw [gift_4]; unfold oHalf allow; simp only [if_true]
  iintro ⟨H0, H1, H2, H3⟩
  ihave H0 := (oH_of c _ f) $$ H0
  ihave H1 := (oH_of c _ f) $$ H1
  ihave H2 := (oH_of c _ f) $$ H2
  ihave H3 := (oH_of c _ f) $$ H3
  iframe

theorem facts_gift_y : ∀ c : Dev nD, (yc c = 0 → ok 0 c = true ∧ ok 1 c = false ∧ mid c = false ∧ mid (peer 0 c) = true ∧ near (peer 0 c) = near c ∧ far (peer 0 c) = far c)
    ∧ (yc c = 1 → ok 0 c = true ∧ ok 1 c = true ∧ mid c = true ∧ mid (peer 0 c) = true ∧ mid (peer 1 c) = false)
    ∧ (yc c = 2 → ok 0 c = true ∧ ok 1 c = true ∧ mid c = true ∧ mid (peer 0 c) = false ∧ mid (peer 1 c) = true)
    ∧ (yc c = 3 → ok 0 c = false ∧ ok 1 c = true ∧ mid c = false ∧ mid (peer 1 c) = true ∧ near (peer 1 c) = near c ∧ far (peer 1 c) = far c) := by
  decide +kernel

/-- and its own part, or its landing slots, along `y`. -/
theorem gifts_y (c : Dev nD) (f : Blk F) :
    iprop(oP c (prt (xc c) (zc c)) fullShare f ∗ pAll c) ⊢ iprop(gift c 0 ∗ gift c 1 ∗ yKept c) := by
  obtain ⟨f0, f1, f2, f3⟩ := facts_gift_y c
  rw [gift_y c 0 (.inl rfl), gift_y c 1 (.inr rfl)]
  unfold yGive yKept
  iintro ⟨HO, HP⟩
  ihave HO := (oP_own c _ f).1 $$ HO
  icases HO with ⟨HN, HF⟩
  ihave HN := (oH_of c _ f) $$ HN
  ihave HF := (oH_of c _ f) $$ HF
  ihave HP := (pAll_open c) $$ HP
  icases HP with ⟨P0, P1, P2⟩
  rcases yc_lt c with h | h | h | h
  · obtain ⟨a, b, d, e, n, r⟩ := f0 h; simp [a, b, d, e, n, r]; iframe
  · obtain ⟨a, b, d, e, n⟩ := f1 h; simp [a, b, d, e, n]; iframe
  · obtain ⟨a, b, d, e, n⟩ := f2 h; simp [a, b, d, e, n]; iframe
  · obtain ⟨a, b, d, e, n, r⟩ := f3 h; simp [a, b, d, e, n, r]; iframe

/-! ## What it gets -/

theorem allow_split (n : Dev nD) (x : ℕ) (P : ℕ → Bool) (b : Bool) (R : Fin 4 → Bool) (hR : ∀ z, R z = (b && P z.val)) :
    (if b = true then allow n x P else iprop(emp)) ⊢ (iprop((if R 0 = true then oH n (prt x 0) else emp) ∗ (if R 1 = true then oH n (prt x 1) else emp)
      ∗ (if R 2 = true then oH n (prt x 2) else emp) ∗ (if R 3 = true then oH n (prt x 3) else emp)) : sProp 𝕄) := by
  rw [hR 0, hR 1, hR 2, hR 3]
  cases b
  · simp; iintro -; (repeat (isplitr; · iempintro)); iempintro
  · simp; unfold allow; exact Entails.of_eq rfl

/-- The neighbours' rows that a port along `z` or across `x` writes. -/
def room (c : Dev nD) (s : Fin 22) : sProp 𝕄 := if ok s c = true then oH (peer s c) (prt (xc c) (zo s)) else iprop(emp)

theorem ok_down : ∀ (c : Dev nD) (z : Fin 4), ok ⟨10 + z.val, by omega⟩ c = (nbr c 3 && decide (z.val ≤ zc c)) := by decide +kernel
theorem ok_up : ∀ (c : Dev nD) (z : Fin 4), ok ⟨14 + z.val, by omega⟩ c = (nbr c 2 && decide (zc c ≤ z.val)) := by decide +kernel
theorem ok_across : ∀ (c : Dev nD) (z : Fin 4), ok ⟨18 + z.val, by omega⟩ c = (nbr c 4 && true) := by decide +kernel

theorem facts_got_y : ∀ c : Dev nD, (yc c = 0 → nbr c 0 = false ∧ nbr c 1 = true ∧ mid c = false ∧ nbrOf 1 c = ypair c)
    ∧ (yc c = 1 → nbr c 0 = true ∧ nbr c 1 = true ∧ mid c = true ∧ nbrOf 0 c = ypair c ∧ nbrOf 1 c = ymir c ∧ mid (ypair c) = false ∧ mid (ymir c) = true)
    ∧ (yc c = 2 → nbr c 0 = true ∧ nbr c 1 = true ∧ mid c = true ∧ nbrOf 0 c = ymir c ∧ nbrOf 1 c = ypair c ∧ mid (ypair c) = false ∧ mid (ymir c) = true)
    ∧ (yc c = 3 → nbr c 0 = true ∧ nbr c 1 = false ∧ mid c = false ∧ nbrOf 0 c = ypair c) := by decide +kernel

theorem got_y (c : Dev nD) :
    iprop((if nbr c 0 = true then barPay c 0 else emp) ∗ (if nbr c 1 = true then barPay c 1 else emp)) ⊢ yGot (F := F) c := by
  obtain ⟨f0, f1, f2, f3⟩ := facts_got_y c
  have b0 : barPay (F := F) c 0 = yGive c (nbrOf 0 c) := by
    unfold barPay; rw [if_neg (by decide), if_neg (by decide), if_neg (by decide)]
  have b1 : barPay (F := F) c 1 = yGive c (nbrOf 1 c) := by
    unfold barPay; rw [if_neg (by decide), if_neg (by decide), if_neg (by decide)]
  rw [b0, b1]; unfold yGot yGive
  rcases yc_lt c with h | h | h | h
  · obtain ⟨a, b, d, e⟩ := f0 h; simp [a, b, d, e]; iintro ⟨-, H⟩; iexact H
  · obtain ⟨a, b, d, e, g, i, j⟩ := f1 h; simp [a, b, d, e, g, i, j]; iintro ⟨⟨H1, H2⟩, H3⟩; iframe
  · obtain ⟨a, b, d, e, g, i, j⟩ := f2 h; simp [a, b, d, e, g, i, j]
  · obtain ⟨a, b, d, e⟩ := f3 h; simp [a, b, d, e]; iintro ⟨H, -⟩; iexact H

theorem got_up (c : Dev nD) : (if nbr c 2 = true then barPay c 2 else iprop(emp)) ⊢ (iprop(room c 14 ∗ room c 15 ∗ room c 16 ∗ room c 17) : sProp 𝕄) := by
  have b : barPay (F := F) c 2 = allow (zdn c) (xc c) (fun z => zc c ≤ z) := by unfold barPay; rw [if_pos (by decide)]; rfl
  rw [b]
  exact allow_split (zdn c) (xc c) _ (nbr c 2) (fun z => ok ⟨14 + z.val, by omega⟩ c) (ok_up c)
theorem got_down (c : Dev nD) : (if nbr c 3 = true then barPay c 3 else iprop(emp)) ⊢ (iprop(room c 10 ∗ room c 11 ∗ room c 12 ∗ room c 13) : sProp 𝕄) := by
  have b : barPay (F := F) c 3 = allow (zup c) (xc c) (fun z => z ≤ zc c) := by unfold barPay; rw [if_neg (by decide), if_pos (by decide)]; rfl
  rw [b]
  exact allow_split (zup c) (xc c) _ (nbr c 3) (fun z => ok ⟨10 + z.val, by omega⟩ c) (ok_down c)
theorem got_across (c : Dev nD) : (if nbr c 4 = true then barPay c 4 else iprop(emp)) ⊢ (iprop(room c 18 ∗ room c 19 ∗ room c 20 ∗ room c 21) : sProp 𝕄) := by
  have b : barPay (F := F) c 4 = allow (xp c) (xc c) (fun _ => true) := by unfold barPay; rw [if_neg (by decide), if_neg (by decide), if_pos (by decide)]; rfl
  rw [b]
  exact allow_split (xp c) (xc c) _ (nbr c 4) (fun z => ok ⟨18 + z.val, by omega⟩ c) (ok_across c)

end Cert.AllReduce

end
-- ==== Proof.Body.lean ====
/-
# The barrier, the last waits, and the whole body

A device signals its neighbours, waits for theirs, and then runs the copies along `y`, the copies along `z` and across
`x`, and the waits for the other half. It ends with the sum in its whole result block and every semaphore at zero.
-/
module

public import proofs.«01_k».proof.Proof.Gifts

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## The barrier -/

/-- A signal to a neighbour that is there. -/
theorem wp_unit_to (c : Dev nD) (s : Fin 22) (l : List (Fin 22)) (hs : s.val < 5) (h : ok s c = true)
    (n : Dev nD) (hn : n = peer s c) (Q : PUnit → sProp 𝕄) :
    world X ⊢ iprop(ptok c s -∗ gift c s -∗ owing c (s :: l) -∗ (owing c l -∗ Q ⟨⟩) -∗ WP (F := F) c (semSignalWord n barrier0 1#32) Q) := by
  unfold gift semSignalWord
  rw [if_pos h]
  iintro #HW Ht Hg HO Hk
  iapply (wp_unit X c n s l hn h hs rfl (w := 1) rfl) $$ [Ht Hg HO]
  · isplitr; · iexact HW
    iframe
  iintro HO
  iapply (wp_done c)
  iapply Hk; iexact HO

/-- A signal that is made if the neighbour is there. -/
theorem wp_unit_if (c : Dev nD) (s : Fin 22) (l : List (Fin 22)) (hs : s.val < 5) {p : Prop} [Decidable p] (hp : p ↔ ok s c = true)
    (n : p → Dev nD) (hn : ∀ h, n h = peer s c) {α : Type} (k : Pg F α) (Q : α → sProp 𝕄) :
    world X ⊢ iprop(ptok c s -∗ gift c s -∗ owing c ((if ok s c = true then [s] else []) ++ l) -∗ (owing c l -∗ WP c k Q)
      -∗ WP c (orNot p (fun h => semSignalWord (n h) barrier0 1#32) k) Q) := by
  by_cases h : ok s c = true
  · rw [if_pos h, List.singleton_append]
    iintro #HW Ht Hg HO Hk
    iapply (wp_taken c Q (hp.2 h))
    iapply (wp_unit_to X c s l hs h (n (hp.2 h)) (hn _)) $$ HW Ht Hg HO
    iintro HO
    iapply Hk; iexact HO
  · rw [if_neg h]
    iintro #HW Ht Hg HO Hk
    iapply (wp_skipped c Q (fun h' => h (hp.1 h')))
    iapply Hk; iexact HO

theorem at_bar : ∀ c : Dev nD, (k0_cond1 c = 1#1 ↔ ok 1 c = true) ∧ (k0_cond2 c = 1#1 ↔ ok 0 c = true) ∧ (k0_cond3 c = 1#1 ↔ ok 3 c = true)
    ∧ (k0_cond4 c = 1#1 ↔ ok 2 c = true) := by decide +kernel
theorem dev_bar : ∀ c : Dev nD, (k0_cond1 c = 1#1 → k0_dev1 c = (peer 1 c).val) ∧ (k0_cond2 c = 1#1 → k0_dev2 c = (peer 0 c).val)
    ∧ (k0_cond3 c = 1#1 → k0_dev3 c = (peer 3 c).val) ∧ (k0_cond4 c = 1#1 → k0_dev4 c = (peer 2 c).val) ∧ k0_dev5 c = (peer 4 c).val := by decide +kernel
theorem barOrd_if : ∀ c : Dev nD, barOrd (yc c) (zc c) = (if ok 1 c = true then [1] else []) ++ ((if ok 0 c = true then [0] else [])
    ++ ((if ok 3 c = true then [3] else []) ++ ((if ok 2 c = true then [2] else []) ++ [4]))) := by decide +kernel

/-- The signals at the barrier. -/
theorem wp_signals (c : Dev nD) (l : List (Fin 22)) (Q : (Σ' (d0 : Dev nD) (v2 : BitVec 32) (v5 : BitVec 32) (v8 : BitVec 32) (v11 : BitVec 32) (v12 : BitVec 32), Sems sig S_) → sProp 𝕄) :
    world X ⊢ iprop((ptok c 0 ∗ ptok c 1 ∗ ptok c 2 ∗ ptok c 3 ∗ ptok c 4) -∗ (gift c 0 ∗ gift c 1 ∗ gift c 2 ∗ gift c 3 ∗ gift c 4)
      -∗ owing c (barOrd (yc c) (zc c) ++ l)
      -∗ (owing c l -∗ Q ⟨c, wx c, wy c, wz c, wpart c, Scalar.subi 1#32 (wx c), SemArray.scalar (sig.barrier 0 rfl)⟩)
      -∗ WP c (k0_part41 (F := F) xM hx oM ho pM hp cc0_scratch1 cc0_scratch2 cc0_scratch3 cc0_scratch4 cc0_scratch5 cc0_scratch6) Q) := by
  obtain ⟨e1, e0, e3, e2⟩ := at_bar c
  obtain ⟨n1, n0, n3, n2, n4⟩ := dev_bar c
  rw [part41_eq, barOrd_if c]
  simp only [List.append_assoc, List.cons_append, List.nil_append]
  rw [wp_seq]
  simp only [Prog.lift, wp_deviceId]
  iintro #HW ⟨T0, T1, T2, T3, T4⟩ ⟨G0, G1, G2, G3, G4⟩ HO Hk
  iapply (wp_done c)
  iapply (wp_unit_if X c 1 _ (by decide) e1 (fun h => ⟨k0_dev1 c, k0_dev1_lt c h⟩) (fun h => Fin.ext (n1 h))) $$ HW T1 G1 HO
  iintro HO
  iapply (wp_unit_if X c 0 _ (by decide) e0 (fun h => ⟨k0_dev2 c, k0_dev2_lt c h⟩) (fun h => Fin.ext (n0 h))) $$ HW T0 G0 HO
  iintro HO
  iapply (wp_unit_if X c 3 _ (by decide) e3 (fun h => ⟨k0_dev3 c, k0_dev3_lt c h⟩) (fun h => Fin.ext (n3 h))) $$ HW T3 G3 HO
  iintro HO
  iapply (wp_unit_if X c 2 _ (by decide) e2 (fun h => ⟨k0_dev4 c, k0_dev4_lt c h⟩) (fun h => Fin.ext (n2 h))) $$ HW T2 G2 HO
  iintro HO
  rw [wp_seq]
  iapply (wp_unit_to X c 4 l (by decide) rfl _ (Fin.ext n4)) $$ HW T4 G4 HO
  iintro HO
  iapply (wp_done c)
  iapply Hk; iexact HO

theorem at_meet : ∀ c : Dev nD,
    (bothWord (wy c) (wz c) 0#32 0#32 = 1#1 ∧ bothWord (wy c) (wz c) 1#32 0#32 ≠ 1#1 ∧ bothWord (wy c) (wz c) 0#32 1#32 ≠ 1#1 ∧ bothWord (wy c) (wz c) 1#32 1#32 ≠ 1#1 ∧ barCount c = 3)
    ∨ (bothWord (wy c) (wz c) 0#32 0#32 ≠ 1#1 ∧ bothWord (wy c) (wz c) 1#32 0#32 = 1#1 ∧ bothWord (wy c) (wz c) 0#32 1#32 ≠ 1#1 ∧ bothWord (wy c) (wz c) 1#32 1#32 ≠ 1#1 ∧ barCount c = 4)
    ∨ (bothWord (wy c) (wz c) 0#32 0#32 ≠ 1#1 ∧ bothWord (wy c) (wz c) 1#32 0#32 ≠ 1#1 ∧ bothWord (wy c) (wz c) 0#32 1#32 = 1#1 ∧ bothWord (wy c) (wz c) 1#32 1#32 ≠ 1#1 ∧ barCount c = 4)
    ∨ (bothWord (wy c) (wz c) 0#32 0#32 ≠ 1#1 ∧ bothWord (wy c) (wz c) 1#32 0#32 ≠ 1#1 ∧ bothWord (wy c) (wz c) 0#32 1#32 ≠ 1#1 ∧ bothWord (wy c) (wz c) 1#32 1#32 = 1#1 ∧ barCount c = 5) := by
  decide +kernel

/-- The taken one of the four waits at the barrier. -/
theorem wp_meet_one (c : Dev nD) (l : List (Fin 22)) (hl : ∀ s ∈ l, 1 < lvlOf (peer s c) (key s)) (w : BitVec 32) (hw : w.toInt = (barCount c : ℤ))
    (Q : PUnit → sProp 𝕄) :
    world X ⊢ iprop((atPos ER (cell c bar) 0 ∅ 0 ∗ cred (tallyAt (cell c bar) () (barCount c))) -∗ owing c l
      -∗ ((semVal (cell c bar) 0 ∗ barGot c ∗ owing c l) -∗ Q ⟨⟩) -∗ WP (F := F) c (semWaitWord barrier0 w) Q) := by
  unfold semWaitWord
  rw [hw]
  iintro #HW Hb HO Hk
  iapply (wp_barrier X c l hl rfl rfl) $$ [Hb HO]
  · isplitr; · iexact HW
    iframe
  iintro H
  iapply (wp_done c)
  iapply Hk; iexact H

/-- The wait at the barrier. -/
theorem wp_meet (c : Dev nD) (l : List (Fin 22)) (hl : ∀ s ∈ l, 1 < lvlOf (peer s c) (key s)) {α : Type} (k : Pg F α) (Q : α → sProp 𝕄) :
    world X ⊢ iprop((atPos ER (cell c bar) 0 ∅ 0 ∗ cred (tallyAt (cell c bar) () (barCount c))) -∗ owing c l
      -∗ ((semVal (cell c bar) 0 ∗ barGot c ∗ owing c l) -∗ WP c k Q)
      -∗ WP c (orNot (bothWord (wy c) (wz c) 0#32 0#32 = 1#1) (fun _ => semWaitWord barrier0 3#32) <|
        orNot (bothWord (wy c) (wz c) 1#32 0#32 = 1#1) (fun _ => semWaitWord barrier0 4#32) <|
        orNot (bothWord (wy c) (wz c) 0#32 1#32 = 1#1) (fun _ => semWaitWord barrier0 4#32) <|
        orNot (bothWord (wy c) (wz c) 1#32 1#32 = 1#1) (fun _ => semWaitWord barrier0 5#32) k) Q) := by
  iintro #HW Hb HO Hk
  rcases at_meet c with ⟨h0, h1, h2, h3, hc⟩ | ⟨h0, h1, h2, h3, hc⟩ | ⟨h0, h1, h2, h3, hc⟩ | ⟨h0, h1, h2, h3, hc⟩
  · iapply (wp_taken c _ h0)
    iapply (wp_meet_one X c l hl 3#32 (by rw [hc]; rfl)) $$ HW Hb HO
    iintro H
    iapply (wp_skipped c _ h1)
    iapply (wp_skipped c _ h2)
    iapply (wp_skipped c _ h3)
    iapply Hk; iexact H
  · iapply (wp_skipped c _ h0)
    iapply (wp_taken c _ h1)
    iapply (wp_meet_one X c l hl 4#32 (by rw [hc]; rfl)) $$ HW Hb HO
    iintro H
    iapply (wp_skipped c _ h2)
    iapply (wp_skipped c _ h3)
    iapply Hk; iexact H
  · iapply (wp_skipped c _ h0)
    iapply (wp_skipped c _ h1)
    iapply (wp_taken c _ h2)
    iapply (wp_meet_one X c l hl 4#32 (by rw [hc]; rfl)) $$ HW Hb HO
    iintro H
    iapply (wp_skipped c _ h3)
    iapply Hk; iexact H
  · iapply (wp_skipped c _ h0)
    iapply (wp_skipped c _ h1)
    iapply (wp_skipped c _ h2)
    iapply (wp_taken c _ h3)
    iapply (wp_meet_one X c l hl 5#32 (by rw [hc]; rfl)) $$ HW Hb HO
    iintro H
    iapply Hk; iexact H

/-! ## The last waits -/

/-- The receive semaphore across `x` of part `k`. -/
def dx (k : ℕ) : DmaSem sig := ⟨30 + k % 4, by show 30 + k % 4 < 34; omega⟩

/-- The semaphore of part `k` before its wait, and after it. -/
def xRcv (c : Dev nD) (k : ℕ) : sProp 𝕄 := rcv c (dx k)
def xGot (c : Dev nD) (k : ℕ) : sProp 𝕄 := iprop(zero c (dx k) ∗ oP c (prt (1 - xc c) k) fullShare (total X))

theorem sem_dx (k : ℕ) (hk : k < 4) {o : Fin 1 → ℕ} (ho : o = ![k]) (ob : ∀ a, o a + S1.size a ≤ S4.size a) :
    ((cc0_scratch6.slice (Rect.unit (s := S4) o S1.size ob)).squeeze S_ squeezes_S1_S_).sem = dx k := by
  subst ho
  rcases (by omega : k = 0 ∨ k = 1 ∨ k = 2 ∨ k = 3) with rfl | rfl | rfl | rfl
  · exact (rfl : ((cc0_scratch6.slice (Rect.unit (s := S4) ![0] ![1] inb_S4_S1_0)).squeeze S_ squeezes_S1_S_).sem = d30)
  · exact (rfl : ((cc0_scratch6.slice (Rect.unit (s := S4) ![1] ![1] inb_S4_S1_1)).squeeze S_ squeezes_S1_S_).sem = d31)
  · exact (rfl : ((cc0_scratch6.slice (Rect.unit (s := S4) ![2] ![1] inb_S4_S1_2)).squeeze S_ squeezes_S1_S_).sem = d32)
  · exact (rfl : ((cc0_scratch6.slice (Rect.unit (s := S4) ![3] ![1] inb_S4_S1_3)).squeeze S_ squeezes_S1_S_).sem = d33)

theorem wp_xWait (c : Dev nD) (k : ℕ) (hk : k < 4) {o : Fin 1 → ℕ} (ho : o = ![k]) (ob : ∀ a, o a + S1.size a ≤ S4.size a)
    (off : Fin 2 → ℕ) (inb : ∀ a, off a + S512x1024.size a ≤ S4096x1024.size a) (hoff : off = ![2048 * (1 - xc c) + 512 * k, 0]) (Q : PUnit → sProp 𝕄) :
    world X ⊢ iprop(xRcv c k -∗ owing c [] -∗ ((xGot X c k ∗ owing c []) -∗ Q ⟨⟩) -∗ WP (F := F) c (xWait o ob off inb) Q) := by
  unfold xRcv xGot xWait
  simp only [Prog.lift]
  iintro #HW Hr HO Hk
  iapply (wp_xrecv X c (dx k) k (show 30 ≤ 30 + k % 4 by omega) (show 30 + k % 4 - 30 = k by omega) (sem_dx k hk ho ob)) $$ HW Hr HO
  iintro ⟨Hz, Hp, HO⟩
  iapply (wp_done c)
  iapply Hk
  iframe

/-- A last wait that is made if its part exists. -/
theorem wp_xWait_if (c : Dev nD) (k : ℕ) {b : Prop} [Decidable b] {p : Prop} [Decidable p] (hp : p ↔ b) (hk : b → k < 4)
    {o : Fin 1 → ℕ} (ob : p → ∀ a, o a + S1.size a ≤ S4.size a)
    {off : Fin 2 → ℕ} (inb : p → ∀ a, off a + S512x1024.size a ≤ S4096x1024.size a)
    (ho : p → o = ![k] ∧ off = ![2048 * (1 - xc c) + 512 * k, 0]) {α : Type} (kk : Pg F α) (Q : α → sProp 𝕄) :
    world X ⊢ iprop((if b then xRcv c k else emp) -∗ owing c [] -∗ (((if b then xGot X c k else emp) ∗ owing c []) -∗ WP c kk Q)
      -∗ WP c (orNot p (fun h => xWait o (ob h) off (inb h)) kk) Q) := by
  by_cases h : b
  · rw [if_pos h, if_pos h]
    iintro #HW Hr HO Hk
    obtain ⟨h₁, h₂⟩ := ho (hp.2 h)
    iapply (wp_taken c _ (hp.2 h))
    iapply (wp_xWait X c k (hk h) h₁ _ off _ h₂) $$ HW Hr HO
    iintro H
    iapply Hk; iexact H
  · rw [if_neg h, if_neg h]
    iintro #HW Hr HO Hk
    iapply (wp_skipped c _ (fun h' => h (hp.1 h')))
    iapply Hk
    iframe

/-- The four parts in the order of the waits: the device's own place first, then outwards. -/
theorem outwards (c : Dev nD) (P : ℕ → sProp 𝕄) :
    iprop(P 0 ∗ P 1 ∗ P 2 ∗ P 3) ⊣⊢ iprop(P (zc c) ∗ (if 1 ≤ zc c then P (zc c - 1) else emp) ∗ (if zc c + 1 ≤ 3 then P (zc c + 1) else emp)
      ∗ (if 2 ≤ zc c then P (zc c - 2) else emp) ∗ (if zc c + 2 ≤ 3 then P (zc c + 2) else emp)
      ∗ (if 3 ≤ zc c then P (zc c - 3) else emp) ∗ (if zc c + 3 ≤ 3 then P (zc c + 3) else emp)) := by
  rcases zc_lt c with h | h | h | h <;> rw [h] <;> simp <;> constructor
  · iintro ⟨H0, H1, H2, H3⟩; iframe; (repeat (isplitr; · iempintro)); try iempintro
  · iintro ⟨H0, -, H1, -, H2, -, H3⟩; iframe
  · iintro ⟨H0, H1, H2, H3⟩; iframe; (repeat (isplitr; · iempintro)); try iempintro
  · iintro ⟨H1, H0, H2, -, H3, -, -⟩; iframe
  · iintro ⟨H0, H1, H2, H3⟩; iframe; (repeat (isplitr; · iempintro)); try iempintro
  · iintro ⟨H2, H1, H3, H0, -, -, -⟩; iframe
  · iintro ⟨H0, H1, H2, H3⟩; iframe; (repeat (isplitr; · iempintro)); try iempintro
  · iintro ⟨H3, H2, -, H1, -, H0, -⟩; iframe

theorem dx_eq : dx 0 = d30 ∧ dx 1 = d31 ∧ dx 2 = d32 ∧ dx 3 = d33 := ⟨rfl, rfl, rfl, rfl⟩

/-- The semaphores before the last waits, outwards; -/
theorem rcv_out (c : Dev nD) : iprop(rcv (F := F) c d30 ∗ rcv c d31 ∗ rcv c d32 ∗ rcv c d33) ⊢
    iprop(xRcv c (zc c) ∗ (if 1 ≤ zc c then xRcv c (zc c - 1) else emp) ∗ (if zc c + 1 ≤ 3 then xRcv c (zc c + 1) else emp)
      ∗ (if 2 ≤ zc c then xRcv c (zc c - 2) else emp) ∗ (if zc c + 2 ≤ 3 then xRcv c (zc c + 2) else emp)
      ∗ (if 3 ≤ zc c then xRcv c (zc c - 3) else emp) ∗ (if zc c + 3 ≤ 3 then xRcv c (zc c + 3) else emp)) := by
  refine BIBase.Entails.trans ?_ (outwards c (xRcv (F := F) c)).1
  unfold xRcv
  rw [dx_eq.1, dx_eq.2.1, dx_eq.2.2.1, dx_eq.2.2.2]

/-- and after them, gathered. -/
theorem got_in (c : Dev nD) :
    iprop(xGot X c (zc c) ∗ (if 1 ≤ zc c then xGot X c (zc c - 1) else emp) ∗ (if zc c + 1 ≤ 3 then xGot X c (zc c + 1) else emp)
      ∗ (if 2 ≤ zc c then xGot X c (zc c - 2) else emp) ∗ (if zc c + 2 ≤ 3 then xGot X c (zc c + 2) else emp)
      ∗ (if 3 ≤ zc c then xGot X c (zc c - 3) else emp) ∗ (if zc c + 3 ≤ 3 then xGot X c (zc c + 3) else emp))
    ⊢ iprop(zero c d30 ∗ zero c d31 ∗ zero c d32 ∗ zero c d33 ∗ oHalf c (1 - xc c) fullShare (total X)) := by
  refine BIBase.Entails.trans (outwards c (xGot X c)).2 ?_
  unfold xGot oHalf
  rw [dx_eq.1, dx_eq.2.1, dx_eq.2.2.1, dx_eq.2.2.2]
  iintro ⟨⟨Z0, P0⟩, ⟨Z1, P1⟩, ⟨Z2, P2⟩, ⟨Z3, P3⟩⟩
  iframe

theorem at_last : ∀ c : Dev nD, (k0_cond17 c = 1#1 ↔ 1 ≤ zc c) ∧ (k0_cond18 c = 1#1 ↔ zc c + 1 ≤ 3) ∧ (k0_cond19 c = 1#1 ↔ 2 ≤ zc c)
    ∧ (k0_cond20 c = 1#1 ↔ zc c + 2 ≤ 3) ∧ (k0_cond21 c = 1#1 ↔ 3 ≤ zc c) ∧ (k0_cond22 c = 1#1 ↔ zc c + 3 ≤ 3) := by decide +kernel
theorem off_last : ∀ c : Dev nD, (k0_off11 c = ![zc c] ∧ k0_off12 c = ![2048 * (1 - xc c) + 512 * zc c, 0])
    ∧ (k0_cond17 c = 1#1 → k0_off13 c = ![zc c - 1] ∧ k0_off14 c = ![2048 * (1 - xc c) + 512 * (zc c - 1), 0])
    ∧ (k0_cond18 c = 1#1 → k0_off15 c = ![zc c + 1] ∧ k0_off16 c = ![2048 * (1 - xc c) + 512 * (zc c + 1), 0])
    ∧ (k0_cond19 c = 1#1 → k0_off17 c = ![zc c - 2] ∧ k0_off18 c = ![2048 * (1 - xc c) + 512 * (zc c - 2), 0])
    ∧ (k0_cond20 c = 1#1 → k0_off19 c = ![zc c + 2] ∧ k0_off20 c = ![2048 * (1 - xc c) + 512 * (zc c + 2), 0])
    ∧ (k0_cond21 c = 1#1 → k0_off21 c = ![zc c - 3] ∧ k0_off22 c = ![2048 * (1 - xc c) + 512 * (zc c - 3), 0])
    ∧ (k0_cond22 c = 1#1 → k0_off23 c = ![zc c + 3] ∧ k0_off24 c = ![2048 * (1 - xc c) + 512 * (zc c + 3), 0]) := by decide +kernel

set_option maxHeartbeats 2000000 in
/-- The last waits bring the other half. -/
theorem wp_last (c : Dev nD) (Q : PUnit → sProp 𝕄) :
    world X ⊢ iprop((rcv c d30 ∗ rcv c d31 ∗ rcv c d32 ∗ rcv c d33) -∗ owing c []
      -∗ ((zero c d30 ∗ zero c d31 ∗ zero c d32 ∗ zero c d33 ∗ oHalf c (1 - xc c) fullShare (total X) ∗ owing c []) -∗ Q ⟨⟩)
      -∗ WP (F := F) c (lastProg c) Q) := by
  obtain ⟨e1, e2, e3, e4, e5, e6⟩ := at_last c
  obtain ⟨o0, o1, o2, o3, o4, o5, o6⟩ := off_last c
  have hz : zc c < 4 := by rcases zc_lt c with h | h | h | h <;> omega
  unfold lastProg
  rw [wp_seq]
  iintro #HW HR HO Hk
  ihave HR := (rcv_out c) $$ HR
  icases HR with ⟨R0, R1, R2, R3, R4, R5, R6⟩
  iapply (wp_xWait X c (zc c) hz o0.1 _ _ _ o0.2) $$ HW R0 HO; iintro ⟨G0, HO⟩
  iapply (wp_xWait_if X c (zc c - 1) e1 (fun _ => by omega) (k0_off13_inb c) (k0_off14_inb c) o1) $$ HW R1 HO; iintro ⟨G1, HO⟩
  iapply (wp_xWait_if X c (zc c + 1) e2 (fun _ => by omega) (k0_off15_inb c) (k0_off16_inb c) o2) $$ HW R2 HO; iintro ⟨G2, HO⟩
  iapply (wp_xWait_if X c (zc c - 2) e3 (fun _ => by omega) (k0_off17_inb c) (k0_off18_inb c) o3) $$ HW R3 HO; iintro ⟨G3, HO⟩
  iapply (wp_xWait_if X c (zc c + 2) e4 (fun _ => by omega) (k0_off19_inb c) (k0_off20_inb c) o4) $$ HW R4 HO; iintro ⟨G4, HO⟩
  iapply (wp_xWait_if X c (zc c - 3) e5 (fun _ => by omega) (k0_off21_inb c) (k0_off22_inb c) o5) $$ HW R5 HO; iintro ⟨G5, HO⟩
  iapply (wp_xWait_if X c (zc c + 3) e6 (fun _ => by omega) (k0_off23_inb c) (k0_off24_inb c) o6) $$ HW R6 HO; iintro ⟨G6, HO⟩
  ihave HG := (got_in X c) $$ [G0 G1 G2 G3 G4 G5 G6]
  · iframe
  icases HG with ⟨Z0, Z1, Z2, Z3, HH⟩
  iapply (wp_done c)
  iapply Hk
  iframe

/-! ## The body -/

/-- What a device runs the body with: its semaphores, its tokens, what it owes, its three buffers; -/
def bodyIn (c : Dev nD) : sProp 𝕄 :=
  iprop((atPos ER (cell c bar) 0 ∅ 0 ∗ cred (tallyAt (cell c bar) () (barCount c)))
    ∗ (snd c d2 ∗ snd c d3 ∗ snd c d4 ∗ snd c d5)
    ∗ (snd c d10 ∗ snd c d11 ∗ snd c d12 ∗ snd c d13 ∗ snd c d14 ∗ snd c d15 ∗ snd c d16 ∗ snd c d17 ∗ snd c d26 ∗ snd c d27 ∗ snd c d28 ∗ snd c d29)
    ∗ (rrdy c d6 ∗ rrdy c d7 ∗ rrdy c d8 ∗ rrdy c d9)
    ∗ (rrdy c d18 ∗ rrdy c d19 ∗ rrdy c d20 ∗ rrdy c d21 ∗ rrdy c d22 ∗ rrdy c d23 ∗ rrdy c d24 ∗ rrdy c d25)
    ∗ (rrdy c d30 ∗ rrdy c d31 ∗ rrdy c d32 ∗ rrdy c d33)
    ∗ (ptok c 0 ∗ ptok c 1 ∗ ptok c 2 ∗ ptok c 3 ∗ ptok c 4)
    ∗ (ptok c 5 ∗ ptok c 6 ∗ ptok c 7 ∗ ptok c 8 ∗ ptok c 9)
    ∗ (ptok c 10 ∗ ptok c 11 ∗ ptok c 12 ∗ ptok c 13 ∗ ptok c 14 ∗ ptok c 15 ∗ ptok c 16 ∗ ptok c 17 ∗ ptok c 18 ∗ ptok c 19 ∗ ptok c 20 ∗ ptok c 21)
    ∗ owing c (order c) ∗ xP c Finset.univ (X c) ∗ oH c Finset.univ ∗ pAll c)
/-- and what it ends with. -/
def bodyOut (c : Dev nD) : sProp 𝕄 :=
  iprop(semVal (cell c bar) 0
    ∗ (zero c d2 ∗ zero c d3 ∗ zero c d4 ∗ zero c d5 ∗ zero c d6 ∗ zero c d7 ∗ zero c d8 ∗ zero c d9)
    ∗ (zero c d10 ∗ zero c d11 ∗ zero c d12 ∗ zero c d13 ∗ zero c d14 ∗ zero c d15 ∗ zero c d16 ∗ zero c d17
      ∗ zero c d18 ∗ zero c d19 ∗ zero c d20 ∗ zero c d21 ∗ zero c d22 ∗ zero c d23 ∗ zero c d24 ∗ zero c d25
      ∗ zero c d26 ∗ zero c d27 ∗ zero c d28 ∗ zero c d29)
    ∗ (zero c d30 ∗ zero c d31 ∗ zero c d32 ∗ zero c d33)
    ∗ owing c [] ∗ xP c Finset.univ (X c) ∗ oP c Finset.univ fullShare (total X) ∗ pAll c)

theorem lvl_bar : ∀ c : Dev nD, ∀ s ∈ yOrd (yc c) ++ zOrd (zc c), 1 < lvlOf (peer s c) (key s) := by decide +kernel
theorem lvl_y : ∀ c : Dev nD, ∀ s ∈ zOrd (zc c), 5 < lvlOf (peer s c) (key s) := by decide +kernel

/-- The parts held after the copies along `z` are the device's half. -/
theorem halfDone_eq (c : Dev nD) : halfDone X c = oHalf c (xc c) fullShare (total X) := rfl

/-- The body of the kernel. -/
theorem wp_body (c : Dev nD) (Q : PUnit → sProp 𝕄) :
    world X ⊢ iprop(bodyIn X c -∗ (bodyOut X c -∗ Q ⟨⟩)
      -∗ WP c (cc0_body (F := F) xM hx oM ho pM hp cc0_scratch1 cc0_scratch2 cc0_scratch3 cc0_scratch4 cc0_scratch5 cc0_scratch6) Q) := by
  rw [body_eq]
  unfold bodyIn bodyOut order
  iintro #HW ⟨HB, ⟨S2, S3, S4, S5⟩, ⟨S10, S11, S12, S13, S14, S15, S16, S17, S26, S27, S28, S29⟩, ⟨R6, R7, R8, R9⟩,
    HRz, ⟨R30, R31, R32, R33⟩, HTb, ⟨T5, T6, T7, T8, T9⟩, ⟨T10, T11, T12, T13, T14, T15, T16, T17, T18, T19, T20, T21⟩, HO, HX, Hout, HP⟩ Hk
  unfold oH
  icases Hout with ⟨%f, Hout⟩
  ihave Hout := (oP_all c _ f).1 $$ Hout
  icases Hout with ⟨Hown, Hoth⟩
  ihave Hown := (gifts_z c f) $$ Hown
  icases Hown with ⟨G2, G3, Hown⟩
  ihave G4 := (gifts_x c f) $$ Hoth
  ihave Hy := (gifts_y c f) $$ [Hown HP]
  · iframe
  icases Hy with ⟨G0, G1, HK⟩
  ihave HX := (xP_all c _).1 $$ HX
  icases HX with ⟨⟨XN, XF⟩, XR⟩
  rw [wp_seq]
  iapply (wp_signals X c (yOrd (yc c) ++ zOrd (zc c))) $$ HW HTb [G0 G1 G2 G3 G4] HO
  · iframe
  iintro HO
  rw [wp_seq, part42_eq]
  iapply (wp_meet X c _ (lvl_bar c)) $$ HW HB HO
  iintro ⟨Zb, HG, HO⟩
  unfold barGot
  icases HG with ⟨B0, B1, B2, B3, B4⟩
  ihave HGy := (got_y c) $$ [B0 B1]
  · iframe
  ihave B2 := (got_up c) $$ B2
  icases B2 with ⟨M14, M15, M16, M17⟩
  ihave B3 := (got_down c) $$ B3
  icases B3 with ⟨M10, M11, M12, M13⟩
  ihave B4 := (got_across c) $$ B4
  icases B4 with ⟨M18, M19, M20, M21⟩
  rw [part43_eq]
  simp only [wp_seq]
  unfold spreadProg
  iapply (wp_along X c (zOrd (zc c)) (lvl_y c)) $$ HW [S2 S3 S4 S5 R6 R7 R8 R9 T5 T6 T7 T8 T9 XN XF HK HGy HO]
  · unfold yStart; iframe
  unfold yDone
  iintro ⟨Z2, Z3, Z4, Z5, Z6, Z7, Z8, Z9, XN, XF, ON, OF, P0, P1, P2, HO⟩
  ihave Hown := (oP_own c _ _).2 $$ [ON OF]
  · iframe
  iapply (wp_around X c) $$ HW [S10 S11 S12 S13 S14 S15 S16 S17 S26 S27 S28 S29 HRz T10 T11 T12 T13 T14 T15 T16 T17 T18 T19 T20 T21
      M10 M11 M12 M13 M14 M15 M16 M17 M18 M19 M20 M21 Hown HO]
  · unfold zStart
    isplitr [HRz Hown HO]
    · unfold zrdy room
      isplitl [S10 T10 M10]; · isplitl [S10]; · iexact S10
                               iframe
      isplitl [S11 T11 M11]; · isplitl [S11]; · iexact S11
                               iframe
      isplitl [S12 T12 M12]; · isplitl [S12]; · iexact S12
                               iframe
      isplitl [S13 T13 M13]; · isplitl [S13]; · iexact S13
                               iframe
      isplitl [S14 T14 M14]; · isplitl [S14]; · iexact S14
                               iframe
      isplitl [S15 T15 M15]; · isplitl [S15]; · iexact S15
                               iframe
      isplitl [S16 T16 M16]; · isplitl [S16]; · iexact S16
                               iframe
      isplitl [S17 T17 M17]; · isplitl [S17]; · iexact S17
                               iframe
      isplitl [S26 T18 M18]; · isplitl [S26]; · iexact S26
                               iframe
      isplitl [S27 T19 M19]; · isplitl [S27]; · iexact S27
                               iframe
      isplitl [S28 T20 M20]; · isplitl [S28]; · iexact S28
                               iframe
      isplitl [S29]; · iexact S29
      iframe
    iframe
  unfold zDone
  iintro ⟨HZ, HH, HO⟩
  iapply (wp_done c)
  ihave R30 := (rrdy_on c d30 rfl) $$ R30
  ihave R31 := (rrdy_on c d31 rfl) $$ R31
  ihave R32 := (rrdy_on c d32 rfl) $$ R32
  ihave R33 := (rrdy_on c d33 rfl) $$ R33
  iapply (wp_last X c) $$ HW [R30 R31 R32 R33] HO
  · iframe
  iintro ⟨Z30, Z31, Z32, Z33, HH', HO⟩
  iapply Hk
  iframe
  isplitl [XN XF XR]
  · iapply (xP_all c _).2; iframe
  isplitl [HH HH']
  · iapply (oP_all c _ _).2
    isplitl [HH]; · iapply (Entails.of_eq (halfDone_eq X c)); iexact HH
    iexact HH'
  iapply (pAll_close c); iframe

end Cert.AllReduce

end
-- ==== Proof.Launch.lean ====
/-
# The launch: tokens, credit and semaphores dealt to the devices

Each duty of the schedule has a token, minted at launch and dealt to the device that makes the payment. Each device
gets the credit of everything the others owe its semaphores.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## Semaphores and tokens -/

theorem osem_inj : ∀ k k' : Fin 33, osem k = osem k' → k = k' := by decide +kernel

theorem cell_inj {c c' : Dev nD} {sm sm' : SemLoc sig} (h : cell c sm = cell c' sm') : c = c' ∧ sm = sm' :=
  ⟨congrArg (fun g : GSem nD τ sig => g.1.1) h, congrArg (fun g : GSem nD τ sig => g.2) h⟩

theorem kcell_inj : Function.Injective (kcell : Dev nD × Fin 33 → GSem nD τ sig) := by
  rintro ⟨c, k⟩ ⟨c', k'⟩ h
  obtain ⟨h₁, h₂⟩ := cell_inj h
  rw [show c = c' from h₁, osem_inj k k' h₂]

def allCells : Finset (GSem nD τ sig) := Finset.univ.map ⟨kcell, kcell_inj⟩

/-- The semaphores of the sends and of the receives. -/
def tx (k : Fin 16) : DmaSem sig := ⟨if k.val < 4 then k.val + 2 else if k.val < 12 then k.val + 6 else k.val + 14, by
  show (if k.val < 4 then k.val + 2 else if k.val < 12 then k.val + 6 else k.val + 14) < 34
  split <;> [skip; split] <;> omega⟩
def rx (k : Fin 16) : DmaSem sig := ⟨if k.val < 4 then k.val + 6 else if k.val < 12 then k.val + 14 else k.val + 18, by
  show (if k.val < 4 then k.val + 6 else if k.val < 12 then k.val + 14 else k.val + 18) < 34
  split <;> [skip; split] <;> omega⟩

/-- The tokens of the payments of the ports, and of the sends' own semaphores. -/
abbrev portTok (cs : Dev nD × Fin 22) : GSem nD τ sig × ℕ × Fin 5 := (cell (peer cs.2 cs.1) (key cs.2), 0, duty cs.2)
abbrev sendTok (ck : Dev nD × Fin 16) : GSem nD τ sig × ℕ × Fin 5 := (cell ck.1 (.dma (tx ck.2)), 0, dutyAt ck.1 (tx ck.2).val)

theorem port_inj : ∀ s s' : Fin 22, key s = key s' → duty s = duty s' → s = s' := by decide +kernel
theorem tx_inj : ∀ k k' : Fin 16, (SemLoc.dma (tx k) : SemLoc sig) = .dma (tx k') → k = k' := by decide +kernel
theorem rx_inj : ∀ k k' : Fin 16, (SemLoc.dma (rx k) : SemLoc sig) = .dma (rx k') → k = k' := by decide +kernel
theorem port_ne_send : ∀ (s : Fin 22) (k : Fin 16), key s ≠ .dma (tx k) := by decide +kernel

theorem portTok_inj : Function.Injective portTok := by
  rintro ⟨c, s⟩ ⟨c', s'⟩ h
  obtain ⟨h₁, h₂⟩ := cell_inj (congrArg Prod.fst h)
  have hs : s = s' := port_inj s s' h₂ (congrArg (fun x : GSem nD τ sig × ℕ × Fin 5 => x.2.2) h)
  subst hs
  have hc : peer s c = peer s c' := h₁
  rw [← payer_peer s c, hc, payer_peer]
theorem sendTok_inj : Function.Injective sendTok := by
  rintro ⟨c, k⟩ ⟨c', k'⟩ h
  obtain ⟨h₁, h₂⟩ := cell_inj (congrArg Prod.fst h)
  rw [show c = c' from h₁, tx_inj k k' h₂]

def portToks : Finset (GSem nD τ sig × ℕ × Fin 5) := Finset.univ.map ⟨portTok, portTok_inj⟩
def sendToks : Finset (GSem nD τ sig × ℕ × Fin 5) := Finset.univ.map ⟨sendTok, sendTok_inj⟩

theorem toks_disjoint : Disjoint portToks sendToks := by
  rw [Finset.disjoint_left]
  intro x hx hy
  obtain ⟨⟨c, s⟩, _, rfl⟩ := Finset.mem_map.1 hx
  obtain ⟨⟨c', k⟩, _, h⟩ := Finset.mem_map.1 hy
  exact port_ne_send s k (cell_inj (congrArg Prod.fst h)).2.symm

/-- What the launch element deals device `c`: its semaphores' rounds and positions, and the tokens it pays with. -/
def dealt (c : Dev nD) : sProp 𝕄 :=
  iprop((bigSep Finset.univ fun s : Fin 22 => ptok c s)
    ∗ (bigSep Finset.univ fun k : Fin 16 => dutyTok ER (cell c (.dma (tx k))) 0 (dutyAt c (tx k).val)))
def G (c : Dev nD) : sProp 𝕄 :=
  iprop((bigSep Finset.univ fun k : Fin 33 => roundState ER (rd X) (kcell (c, k)) 0)
    ∗ (bigSep Finset.univ fun k : Fin 33 => iprop(atPos ER (kcell (c, k)) 0 ∅ 0 ∗ reached ER (kcell (c, k)) 0)) ∗ dealt c)

theorem fund_all : BI.own (ER (initOf allCells (portToks ∪ sendToks))) ⊢ (|==> bigSep Finset.univ (G X) : sProp 𝕄) := by
  have hX (Φ : GSem nD τ sig → sProp 𝕄) : bigSep allCells Φ = bigSep Finset.univ fun c : Dev nD => bigSep Finset.univ fun k : Fin 33 => Φ (kcell (c, k)) := by
    unfold allCells; rw [bigSep_map, bigSep_univ_prod]; rfl
  have hT : bigSep (portToks ∪ sendToks) (fun x => (dutyTok ER x.1 x.2.1 x.2.2 : sProp 𝕄)) = bigSep Finset.univ fun c : Dev nD => dealt c := by
    rw [bigSep_union toks_disjoint]
    unfold portToks sendToks dealt
    rw [bigSep_map, bigSep_map, bigSep_univ_prod, bigSep_univ_prod, bigSep_sep']
    rfl
  iintro HX
  imod (Rounds.fund ER (rd X) allCells (portToks ∪ sendToks)) $$ HX with ⟨Hst, Hr, Hat, Htok⟩
  imodintro
  ihave Hst := (Entails.of_eq (hX fun g => roundState ER (rd X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

/-! ## The semaphores at zero -/

/-- The 32 semaphores of the copies, as the launch counts them. -/
def csem (k : Fin 32) : SemLoc sig := .dma ⟨k.val + 2, by show k.val + 2 < 34; omega⟩

theorem ownSemFacts : Pipeline.OwnSemFacts cfg0.spec csem := by decide

abbrev zeros (c : Dev nD) : sProp 𝕄 :=
  iprop((zero c d2 ∗ zero c d3 ∗ zero c d4 ∗ zero c d5 ∗ zero c d6 ∗ zero c d7 ∗ zero c d8 ∗ zero c d9)
    ∗ (zero c d10 ∗ zero c d11 ∗ zero c d12 ∗ zero c d13 ∗ zero c d14 ∗ zero c d15 ∗ zero c d16 ∗ zero c d17
      ∗ zero c d18 ∗ zero c d19 ∗ zero c d20 ∗ zero c d21 ∗ zero c d22 ∗ zero c d23 ∗ zero c d24 ∗ zero c d25
      ∗ zero c d26 ∗ zero c d27 ∗ zero c d28 ∗ zero c d29)
    ∗ (zero c d30 ∗ zero c d31 ∗ zero c d32 ∗ zero c d33))

/-- A family over the 32 semaphores, listed. -/
theorem list32 (Φ : Fin 32 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19
      ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31]
    (by decide) (by decide) Φ
theorem list16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem list22 (Φ : Fin 22 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19
      ∗ Φ 20 ∗ Φ 21) :=
  bigSep_univ_eq_bigSepL [0, 1, 2, 3, 4, 5, 6, 7, 8, 9, 10, 11, 12, 13, 14, 15, 16, 17, 18, 19, 20, 21] (by decide) (by decide) Φ

/-- A family over a device's 33 semaphores: the barrier's, and the copies'. -/
theorem bar_first (Φ : SemLoc sig → sProp 𝕄) : (bigSep Finset.univ fun k : Fin 33 => Φ (osem k)) = iprop(Φ bar ∗ bigSep Finset.univ fun k : Fin 32 => Φ (csem k)) := by
  rw [list32]
  exact bigSep_univ_eq_bigSepL [0, 1, 2, 3, 4, 5, 6, 7, 8, 9, 10, 11, 12, 13, 14, 15, 16, 17, 18, 19, 20, 21, 22, 23, 24, 25, 26, 27, 28, 29, 30, 31, 32]
    (by decide) (by decide) (fun k => Φ (osem k))

/-- The barrier semaphore is the one that no launch scopes. -/
theorem unscoped_eq (c : Dev nD) : (unscopedSems0 c : sProp 𝕄) = semVal (cell c bar) 0 := by
  unfold unscopedSems0; rw [bigSep_eq_bigSepL_of_eq [bar] (by decide) (by decide)]; rfl

theorem own_zeros (c : Dev nD) :
    zeros c ⊢ (Pipeline.ownSems0 (Ix := Unit) (Name := ℕ) (U := UU) (Lvl := ℕ) (Val := Elt F) (τ := τ) csem c : sProp 𝕄) := by
  unfold Pipeline.ownSems0
  rw [list32]
  show zeros c ⊢ iprop(zero c d2 ∗ zero c d3 ∗ zero c d4 ∗ zero c d5 ∗ zero c d6 ∗ zero c d7 ∗ zero c d8 ∗ zero c d9
    ∗ zero c d10 ∗ zero c d11 ∗ zero c d12 ∗ zero c d13 ∗ zero c d14 ∗ zero c d15 ∗ zero c d16 ∗ zero c d17
    ∗ zero c d18 ∗ zero c d19 ∗ zero c d20 ∗ zero c d21 ∗ zero c d22 ∗ zero c d23 ∗ zero c d24 ∗ zero c d25
    ∗ zero c d26 ∗ zero c d27 ∗ zero c d28 ∗ zero c d29 ∗ zero c d30 ∗ zero c d31 ∗ zero c d32 ∗ zero c d33)
  iintro ⟨⟨H2, H3, H4, H5, H6, H7, H8, H9⟩, ⟨H10, H11, H12, H13, H14, H15, H16, H17, H18, H19, H20, H21, H22, H23, H24, H25, H26, H27, H28, H29⟩,
    H30, H31, H32, H33⟩
  iframe

/-- A device's semaphores open their invariants. -/
theorem open_one (c : Dev nD) :
    iprop(Pipeline.ownSems0 (Ix := Unit) (Name := ℕ) (U := UU) (Lvl := ℕ) (Val := Elt F) (τ := τ) csem c ∗ unscopedSems0 c ∗ G X c)
      ⊢ |={Set.univ}=> iprop((bigSep Finset.univ fun k : Fin 33 => iprop(∃ κ : ℕ, cellInv ER (rd X) κ (kcell (c, k))))
          ∗ (bigSep Finset.univ fun k : Fin 33 => iprop(atPos ER (kcell (c, k)) 0 ∅ 0 ∗ reached ER (kcell (c, k)) 0)) ∗ dealt c) := by
  unfold G
  rw [unscoped_eq]
  iintro ⟨Hos, Hus, Hst, Hat, Htok⟩
  ihave Hv := (Entails.of_eq (bar_first fun sm => semVal (cell c sm) 0).symm) $$ [Hos Hus]
  · isplitl [Hus]; · iexact Hus
    unfold Pipeline.ownSems0; iexact Hos
  imod (show iprop((bigSep Finset.univ fun k : Fin 33 => semVal (cell c (osem k)) 0) ∗ bigSep Finset.univ fun k : Fin 33 => roundState ER (rd X) (kcell (c, k)) 0)
      ⊢ (|={Set.univ}=> bigSep Finset.univ fun k : Fin 33 => iprop(∃ κ : ℕ, cellInv ER (rd X) κ (kcell (c, k))) : sProp 𝕄) from by
        rw [← bigSep_sep']
        exact (bigSep_mono fun k _ => (Rounds.body_intro ER (rd X) (kcell (c, k))).trans inv_alloc).trans (bigSep_fupd _ _)) $$ [Hv Hst] with Hinv
  · iframe
  imodintro
  iframe

/-- What a device starts from: what is known of all semaphores, its positions, its tokens. -/
def G' (c : Dev nD) : sProp 𝕄 := iprop(recs X ∗ (bigSep Finset.univ fun k : Fin 33 => atPos ER (kcell (c, k)) 0 ∅ 0) ∗ dealt c)

theorem shared :
    (bigSep Finset.univ fun c : Dev nD => iprop((bigSep Finset.univ fun k : Fin 33 => iprop(∃ κ : ℕ, cellInv ER (rd X) κ (kcell (c, k))))
          ∗ (bigSep Finset.univ fun k : Fin 33 => iprop(atPos ER (kcell (c, k)) 0 ∅ 0 ∗ reached ER (kcell (c, k)) 0)) ∗ dealt c) : sProp 𝕄)
      ⊢ bigSep Finset.univ (G' X) := by
  rw [bigSep_sep', bigSep_sep', ← bigSep_univ_prod (fun ck : Dev nD × Fin 33 => iprop(∃ κ : ℕ, cellInv ER (rd X) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  unfold G'
  rw [bigSep_sep', bigSep_sep']
  iintro ⟨#HI, ⟨Hat, #HR⟩, Htok⟩
  isplitr
  · iapply (BI.bigSep_of_persistent Finset.univ (recs X))
    unfold recs
    isplitl; · iexact HI
    iexact HR
  iframe

theorem open_all : (bigSep Finset.univ fun c => iprop(Pipeline.ownSems0 (Ix := Unit) (Name := ℕ) (U := UU) (Lvl := ℕ) (Val := Elt F) (τ := τ) csem c ∗ unscopedSems0 c ∗ G X c) : sProp 𝕄)
    ⊢ |={Set.univ}=> bigSep Finset.univ (G' X) :=
  ((bigSep_mono fun c _ => open_one X c).trans (bigSep_fupd _ _)).trans (BI.fupd_mono (shared X))

/-! ## The credit -/

/-- What device `d` owes a semaphore. -/
theorem owesL_sum (d c : Dev nD) (sm : SemLoc sig) (l : List (Fin 22)) :
    owesL d l (cell c sm) () = (l.map fun s => if cell c sm = cell (peer s d) (key s) then amt (key s) else 0).sum := by
  induction l with
  | nil => rfl
  | cons s l ih =>
    rw [List.map_cons, List.sum_cons, ← ih]
    show (owesL d l + tal d s) (cell c sm) () = _
    unfold tal
    rw [Pi.add_apply, Finsupp.add_apply, tallyAt_apply, Nat.add_comm]
    simp only [and_true]

/-- How many payments a semaphore gets. -/
def count (c : Dev nD) (sm : SemLoc sig) : ℕ := (Finset.univ.filter fun s : Fin 22 => key s = sm ∧ ok s (payer s c) = true).card

theorem owed_sum (c : Dev nD) (sm : SemLoc sig) : (∑ d : Dev nD, owesL d (order d) (cell c sm) ()) = count c sm * amt sm := by
  have h₁ : ∀ d : Dev nD, owesL d (order d) (cell c sm) ()
      = ∑ s : Fin 22, if ok s d = true then (if cell c sm = cell (peer s d) (key s) then amt (key s) else 0) else 0 := by
    intro d
    rw [owesL_sum, ← List.sum_toFinset _ (order_nodup d)]
    refine (Finset.sum_congr ?_ fun _ _ => rfl).trans (Finset.sum_filter (fun s => ok s d = true) _)
    ext s
    simp [mem_order]
  rw [Finset.sum_congr rfl fun d _ => h₁ d, Finset.sum_comm]
  have h₂ : ∀ s : Fin 22, (∑ d : Dev nD, if ok s d = true then (if cell c sm = cell (peer s d) (key s) then amt (key s) else 0) else 0)
      = if key s = sm ∧ ok s (payer s c) = true then amt sm else 0 := by
    intro s
    rw [Finset.sum_eq_single (payer s c)]
    · rw [peer_payer]
      by_cases h : key s = sm
      · subst h
        by_cases h' : ok s (payer s c) = true
        · rw [if_pos h', if_pos rfl, if_pos ⟨rfl, h'⟩]
        · rw [if_neg h', if_neg fun x : key s = key s ∧ ok s (payer s c) = true => h' x.2]
      · rw [if_neg (show ¬ cell c sm = cell c (key s) from fun x => h (cell_inj x).2.symm), ite_self,
          if_neg (show ¬ (key s = sm ∧ ok s (payer s c) = true) from fun x => h x.1)]
    · intro d _ hd
      rw [if_neg (show ¬ cell c sm = cell (peer s d) (key s) from fun x => hd (by rw [(cell_inj x).1, payer_peer])), ite_self]
    · exact fun h => absurd (Finset.mem_univ _) h
  rw [Finset.sum_congr rfl fun s _ => h₂ s, ← Finset.sum_filter, Finset.sum_const, smul_eq_mul]
  rfl

theorem credit_eq (c : Dev nD) (sm : SemLoc sig) :
    tallyOn (cell c sm) (launchCredit (Pipeline.owing fun d => owesL d (order d)) 0 (cell c sm)) = (tallyAt (cell c sm) () (count c sm * amt sm) : CellTallies nD τ sig Unit) := by
  unfold tallyAt
  refine congrArg _ (Finsupp.ext fun u => ?_)
  cases u
  rw [Pipeline.launchCredit_owing, Finsupp.single_eq_same, owed_sum]

theorem count_bar : ∀ c : Dev nD, count c bar = barCount c := by decide +kernel
theorem count_rx : ∀ (c : Dev nD) (k : Fin 16), used c (rx k).val = true → count c (.dma (rx k)) = 1 := by decide +kernel

/-- A receive semaphore's credit, if it is used. -/
def crd (c : Dev nD) (i : DmaSem sig) : sProp 𝕄 := iprop(if used c i.val = true then cred (tallyAt (cell c (.dma i)) () (amt (.dma i))) else emp)

def rxCells : Finset (SemLoc sig) := Finset.univ.map ⟨fun k : Fin 16 => SemLoc.dma (rx k), fun k k' h => rx_inj k k' h⟩

theorem rxCells_sub : rxCells ⊆ Finset.univ.erase bar := by
  intro x hx
  obtain ⟨k, _, rfl⟩ := Finset.mem_map.1 hx
  exact Finset.mem_erase.2 ⟨(fun h => by cases h), Finset.mem_univ _⟩

theorem credits (c : Dev nD) : (Pipeline.launchCred (fun d => owesL d (order d)) c : sProp 𝕄)
    ⊢ iprop(cred (tallyAt (cell c bar) () (barCount c)) ∗ bigSep Finset.univ fun k : Fin 16 => crd c (rx k)) := by
  unfold Pipeline.launchCred
  rw [bigSep_univ_at _ bar]
  rw [credit_eq, count_bar, show amt bar = 1 from rfl, Nat.mul_one]
  refine sep_mono_right ((bigSep_subset rxCells_sub).trans ?_)
  unfold rxCells
  rw [bigSep_map]
  refine bigSep_mono fun k _ => ?_
  unfold crd
  by_cases h : used c (rx k).val = true
  · rw [if_pos h]
    exact Entails.of_eq (congrArg cred ((credit_eq c (.dma (rx k))).trans (by rw [count_rx c k h, Nat.one_mul])))
  · rw [if_neg h]
    refine show (_ : sProp 𝕄) ⊢ iprop(emp) from ?_
    iintro -
    iempintro

end Cert.AllReduce

end
-- ==== Proof.Run.lean ====
/-
# The run of the whole program

The pipeline around the kernel fetches a device's block, runs the body, and writes the result block back. Every fair
execution of all devices ends with each result at the sum and each semaphore at zero.
-/
module

public import proofs.«01_k».proof.Proof.Launch
public import proofs.«01_k».proof.Proof.Gen.KernelIdeal.Points
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- What the pipeline stages of a device's argument. -/
def xstg (c : Dev nD) : (cc0_stg0_0 : Ref sig .tc).ty.Contents (Elt F) :=
  (win0_0.blk (0 : Fin 1)).view.read (Elt F) ((s₀ m ρ).mem ((c : Thread nD τ).loc main_arg0))

/-! ## Before and after the body -/

/-- What a device starts the kernel with; -/
def start (c : Dev nD) : sProp 𝕄 :=
  iprop(G' (xstg m ρ) c ∗ (cred (tallyAt (cell c bar) () (barCount c)) ∗ bigSep Finset.univ fun k : Fin 16 => crd c (rx k)) ∗ levAts L lv)

/-- what it holds beside the staged blocks before the body, -/
def Φ₀ (c : Dev nD) : sProp 𝕄 := iprop(start m ρ c ∗ pAll c)
/-- and after. -/
def Φ₁ (c : Dev nD) : sProp 𝕄 := iprop(pAll c ∗ zeros c ∗ semVal (cell c bar) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => total (xstg m ρ)
  Φ t := match t with
    | ⟨0, _⟩ => Φ₀ m ρ c
    | ⟨_ + 1, _⟩ => Φ₁ c
  q _ := fullShare
  owed t := match t with
    | ⟨0, _⟩ => owesL c (order c)
    | ⟨_ + 1, _⟩ => 0

/-! ## The start, sorted -/

def atZero (c : Dev nD) (i : DmaSem sig) : sProp 𝕄 := atPos ER (cell c (.dma i)) 0 ∅ 0
def selfTok (c : Dev nD) (i : DmaSem sig) : sProp 𝕄 := dutyTok ER (cell c (.dma i)) 0 (dutyAt c i.val)

/-- The positions of the copies' semaphores: those of the sends and those of the receives. -/
theorem two_kinds (c : Dev nD) : (bigSep Finset.univ fun k : Fin 32 => (atPos ER (cell c (csem k)) 0 ∅ 0 : sProp 𝕄))
    ⊢ iprop((bigSep Finset.univ fun k : Fin 16 => atZero c (tx k)) ∗ bigSep Finset.univ fun k : Fin 16 => atZero c (rx k)) := by
  rw [list32, list16, list16]
  show (iprop(atZero c d2 ∗ atZero c d3 ∗ atZero c d4 ∗ atZero c d5 ∗ atZero c d6 ∗ atZero c d7 ∗ atZero c d8 ∗ atZero c d9
    ∗ atZero c d10 ∗ atZero c d11 ∗ atZero c d12 ∗ atZero c d13 ∗ atZero c d14 ∗ atZero c d15 ∗ atZero c d16 ∗ atZero c d17
    ∗ atZero c d18 ∗ atZero c d19 ∗ atZero c d20 ∗ atZero c d21 ∗ atZero c d22 ∗ atZero c d23 ∗ atZero c d24 ∗ atZero c d25
    ∗ atZero c d26 ∗ atZero c d27 ∗ atZero c d28 ∗ atZero c d29 ∗ atZero c d30 ∗ atZero c d31 ∗ atZero c d32 ∗ atZero c d33) : sProp 𝕄)
    ⊢ iprop((atZero c d2 ∗ atZero c d3 ∗ atZero c d4 ∗ atZero c d5 ∗ atZero c d10 ∗ atZero c d11 ∗ atZero c d12 ∗ atZero c d13
      ∗ atZero c d14 ∗ atZero c d15 ∗ atZero c d16 ∗ atZero c d17 ∗ atZero c d26 ∗ atZero c d27 ∗ atZero c d28 ∗ atZero c d29)
    ∗ (atZero c d6 ∗ atZero c d7 ∗ atZero c d8 ∗ atZero c d9 ∗ atZero c d18 ∗ atZero c d19 ∗ atZero c d20 ∗ atZero c d21
      ∗ atZero c d22 ∗ atZero c d23 ∗ atZero c d24 ∗ atZero c d25 ∗ atZero c d30 ∗ atZero c d31 ∗ atZero c d32 ∗ atZero c d33))
  iintro ⟨H2, H3, H4, H5, H6, H7, H8, H9, H10, H11, H12, H13, H14, H15, H16, H17, H18, H19, H20, H21, H22, H23, H24, H25, H26, H27, H28, H29, H30, H31, H32, H33⟩
  iframe

/-- The semaphores of the sends with their tokens, and of the receives with their credit. -/
theorem sends_eq (c : Dev nD) : iprop((bigSep Finset.univ fun k : Fin 16 => atZero (F := F) c (tx k)) ∗ bigSep Finset.univ fun k : Fin 16 => selfTok c (tx k))
    ⊢ iprop(snd c d2 ∗ snd c d3 ∗ snd c d4 ∗ snd c d5 ∗ snd c d10 ∗ snd c d11 ∗ snd c d12 ∗ snd c d13
      ∗ snd c d14 ∗ snd c d15 ∗ snd c d16 ∗ snd c d17 ∗ snd c d26 ∗ snd c d27 ∗ snd c d28 ∗ snd c d29) := by
  rw [← bigSep_sep']
  exact Entails.of_eq (list16 fun k => snd c (tx k))
theorem recvs_eq (c : Dev nD) : iprop((bigSep Finset.univ fun k : Fin 16 => atZero (F := F) c (rx k)) ∗ bigSep Finset.univ fun k : Fin 16 => crd c (rx k))
    ⊢ iprop(rrdy c d6 ∗ rrdy c d7 ∗ rrdy c d8 ∗ rrdy c d9 ∗ rrdy c d18 ∗ rrdy c d19 ∗ rrdy c d20 ∗ rrdy c d21
      ∗ rrdy c d22 ∗ rrdy c d23 ∗ rrdy c d24 ∗ rrdy c d25 ∗ rrdy c d30 ∗ rrdy c d31 ∗ rrdy c d32 ∗ rrdy c d33) := by
  rw [← bigSep_sep']
  exact Entails.of_eq (list16 fun k => rrdy c (rx k))

/-- What a device starts with is what the body takes. -/
theorem body_in (c : Dev nD) :
    iprop((bigSep Finset.univ fun k : Fin 33 => atPos ER (kcell (c, k)) 0 ∅ 0) ∗ dealt c
        ∗ (cred (tallyAt (cell c bar) () (barCount c)) ∗ bigSep Finset.univ fun k : Fin 16 => crd c (rx k))
        ∗ owing c (order c) ∗ xP c Finset.univ (xstg m ρ c) ∗ oH c Finset.univ ∗ pAll c)
      ⊢ bodyIn (xstg m ρ) c := by
  unfold dealt bodyIn
  rw [bar_first fun sm => atPos ER (cell c sm) 0 ∅ 0, list22]
  iintro ⟨⟨Hb, HP⟩, ⟨HT, HS⟩, ⟨Cb, HC⟩, HO, HX, Hout, Hscr⟩
  ihave HP := (two_kinds c) $$ HP
  icases HP with ⟨HPs, HPr⟩
  ihave HS := (sends_eq c) $$ [HPs HS]
  · isplitl [HPs]; · iexact HPs
    unfold selfTok; iexact HS
  icases HS with ⟨S2, S3, S4, S5, HS⟩
  ihave HR := (recvs_eq c) $$ [HPr HC]
  · iframe
  icases HR with ⟨R6, R7, R8, R9, R18, R19, R20, R21, R22, R23, R24, R25, R30, R31, R32, R33⟩
  icases HT with ⟨T0, T1, T2, T3, T4, T5, T6, T7, T8, T9, HT⟩
  iframe

/-! ## The body's obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

theorem owns_whole (c : Dev nD) (b : Ref sig .tc) (f₀ : b.ty.Contents (Elt F)) :
    (owns (Ix := Unit) (Name := ℕ) (U := UU) (Lvl := ℕ) (c : Thread nD τ) (Memref.whole b) fullShare f₀ : sProp 𝕄)
      = iprop(∃ f : Buf (Elt F) (((c : Dev nD) : Thread nD τ).loc b), ⌜f = f₀⌝ ∗ (((c : Thread nD τ).loc b) ↦{fullShare} f)) := by
  unfold owns; simp only [Memref.view_whole, View.read_whole, View.set_whole]

abbrev staged (c : Dev nD) (b : Ref sig .tc) (f₀ : b.ty.Contents (Elt F)) : sProp 𝕄 :=
  iprop(∃ f : Buf (Elt F) (((c : Dev nD) : Thread nD τ).loc b), ⌜f = f₀⌝ ∗ (((c : Thread nD τ).loc b) ↦{fullShare} f))

def before (c : Dev nD) : sProp 𝕄 :=
  iprop(Φ₀ m ρ c ∗ (dats m ρ 0 c).owesAt () t₀.castSucc
    ∗ (∃ d, staged c cc0_stg0_0 ((dats m ρ 0 c).before (0 : Fin 2) t₀ d))
    ∗ (∃ d, staged c cc0_stg1_0 ((dats m ρ 0 c).before (1 : Fin 2) t₀ d)))
def after (c : Dev nD) : sProp 𝕄 :=
  iprop(Φ₁ c ∗ (dats m ρ 0 c).owesAt () t₀.succ ∗ staged c cc0_stg0_0 (xstg m ρ c) ∗ staged c cc0_stg1_0 (total (xstg m ρ)))

theorem before_x (c : Dev nD) (d) : (dats m ρ 0 c).before (0 : Fin 2) t₀ d = xstg m ρ c := by
  unfold Dat.before; rw [if_pos (fetch_0 t₀)]; rfl

/-- The body, from what the pipeline gives it to what the pipeline wants back. -/
theorem body_run (c : Dev nD) : before m ρ c ⊢ WP c (cc0_body (F := F) xM hx oM ho pM hp cc0_scratch1 cc0_scratch2 cc0_scratch3 cc0_scratch4 cc0_scratch5 cc0_scratch6)
    (fun _ => after m ρ c) := by
  unfold before Φ₀ start G' Dat.owesAt Pipeline.owesWithin
  rw [show (dats m ρ 0 c).owed t₀.castSucc = owesL c (order c) from rfl]
  iintro ⟨⟨⟨⟨#HR, HP, HD⟩, HC, #HL⟩, Hscr⟩, ⟨%W, -, HO⟩, ⟨%e, %g, %hg, HX⟩, ⟨%e', %g', -, Hout⟩⟩
  subst hg
  rw [before_x]
  iapply (wp_body (xstg m ρ) c) $$ [] [HP HD HC HO HX Hout Hscr]
  · unfold world
    isplitl; · iexact HR
    iexact HL
  · iapply (body_in m ρ c)
    iframe
    isplitl [HO]
    · unfold owing; iexists W; iexact HO
    isplitl [HX]
    · unfold xP; iexact HX
    unfold oH oP; iexists g'; iexact Hout
  unfold bodyOut after Φ₁ Dat.owesAt Pipeline.owesWithin owing
  rw [show (dats m ρ 0 c).owed t₀.succ = owesL c [] from rfl]
  iintro ⟨Zb, Z1, Z2, Z3, ⟨%W', HO⟩, HX, Hout, Hscr⟩
  isplitl [Hscr Z1 Z2 Z3 Zb]
  · isplitl [Hscr]; · iexact Hscr
    isplitl [Z1 Z2 Z3]
    · unfold zeros; iframe
    iexact Zb
  isplitl [HO]
  · iexists W'
    isplitr; · ipureintro; exact fun _ _ => Or.inl trivial
    iexact HO
  isplitl [HX]
  · iexists _; isplitr; · (ipureintro; rfl)
    unfold xP; iexact HX
  iexists _; isplitr; · (ipureintro; rfl)
  unfold oP; iexact Hout

theorem body_obligation (c : Dev nD) : BodyObligation (dats (F := F) m ρ 0 c) (defs₀ (F := F)) 𝒱₀ () Set.univ := fun t => by
  rw [fin_N t]
  rw [bigSep_W0, bigSep_W0]
  simp only [owns_whole]
  exact body_run m ρ c

/-! ## The launch theorem's side conditions -/

def u₀ : UU := (initOf (Pipeline.cells cfgs cellOf_inj) (Pipeline.launchToks cfgs cellOf_inj), initOf allCells (portToks ∪ sendToks))

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owesL d (order d)) c ∗ prngReg c (ρ c) ∗ G' (xstg m ρ) c)
      ⊢ |={Set.univ}=> iprop(start m ρ c ∗ emp) := by
  iintro ⟨-, Hlev, Hcr, -, HG⟩
  ihave Hc := (credits (F := F) c) $$ Hcr
  imodintro
  unfold start
  iframe

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ pAll
  iintro ⟨Hs, -, ⟨%f, Hr⟩⟩
  isplitl [Hs]; · iexact Hs
  iexists f; iexact Hr

theorem leave (c : Dev nD) :
    (dats m ρ 0 c).Φ (Fin.last cfg0.N) ⊢ iprop(unscopedSems0 c ∗ Pipeline.ownSems0 csem c ∗ Pipeline.scopedRest cfg0.spec c) := by
  rw [show (dats m ρ 0 c).Φ (Fin.last cfg0.N) = Φ₁ c from rfl, scopedRest0_eq, unscoped_eq]
  unfold Φ₁ pAll
  iintro ⟨⟨%f, Hr⟩, Hz, Hb⟩
  isplitl [Hb]; · iexact Hb
  isplitl [Hz]; · iapply (own_zeros c); iexact Hz
  iexists f; iexact Hr

theorem stage_low : ∀ (w : Fin cfg0.W) (s : Fin (cfg0.win w).nbuf) (c : Dev nD), lvlOf c (.dma ((cfg0.win w).sem s)) = 0 := by
  decide

theorem waits (c : Dev nD) : (levAts L lv : sProp 𝕄) ⊢ Pipeline.cellsWaits cfgs (dats m ρ) () 0 c :=
  Pipeline.cellsWaits_intro cfgs (dats m ρ) () 0 c fun w s t => by
    have h : (levAts L lv : sProp 𝕄) ⊢ MayWait (c : Thread nD τ) (.dma ((cfg0.win w).sem s)) () (owesL c (order c)) :=
      mayWait_of c _ _ fun p _ => by rw [stage_low]; exact lvl_pos c p
    have h' : (levAts L lv : sProp 𝕄) ⊢ MayWait (c : Thread nD τ) (.dma ((cfg0.win w).sem s)) () (owesL c []) :=
      mayWait_of c _ _ fun p hp => absurd hp List.not_mem_nil
    rcases t with ⟨_ | _, ht⟩
    · exact h
    · exact h'

/-! ## The run -/

/-- An array of the kernel after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with all counters zero: every weakly fair execution of the 32 devices
    terminates with the arrays at `finalA` and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owesL d (order d)) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_all (xstg m ρ)) $$ HX with HG
      imodintro
      isplitl [HP] <;> iassumption)
    (hglob := open_all (xstg m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is unchanged; -/
theorem final_x (c : Dev nD) : finalA m ρ c (0 : Fin 2) = m ((c : Thread nD τ).loc main_arg0) :=
  (dats (F := F) m ρ 0 c).arrAt_in (0 : Fin 2) rfl _

/-- what is staged of it is all of it; -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- and the result is the sum. -/
theorem final_o (c : Dev nD) : finalA m ρ c (1 : Fin 2) = total (xstg m ρ) := by
  have h : (win0_1.blk (0 : Fin 1)).view.read (Elt F) (finalA m ρ c (1 : Fin 2)) = total (xstg m ρ) := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans h

end Cert.AllReduce

end
-- ==== Proof.Values.lean ====
/-
# The values

Every device of a column of the mesh along `y` holds one of the four blocks of the whole array; the kernel's result
adds the four in pairs, the reference adds them in order. Over the extended reals the two are equal.
-/
module

public import proofs.«01_k».proof.Proof.Run
public import proofs.«01_k».proof.Proof.Gen.ReferenceIdeal.Run
public import Idealize.ShloMosaic.PureOps.Ideal.Laws
public import Idealize.ShloMosaic.Lib.Pointwise.Reduce
public import Idealize.ShloMosaic.Lib.Layout

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The whole array, as four blocks. -/
abbrev stack (v : Cert.ReferenceIdeal.S16384x1024.Idx → EReal) : Cert.ReferenceIdeal.S4x4096x1024.Idx → EReal :=
  shapeCast _ v Cert.ReferenceIdeal.Gen.shapeCasts_S16384x1024_S4x4096x1024

/-- An entry of block `y`. -/
def blockAt (v : Cert.ReferenceIdeal.S16384x1024.Idx → EReal) (y : Fin 4) (i : S4096x1024.Idx) : EReal := stack v (ix3 y (i 0) (i 1))

/-- What a device holds of the whole array is the block its `y` names. -/
theorem held (v : Cert.ReferenceIdeal.S16384x1024.Idx → EReal) (c : Dev nD) (i : S4096x1024.Idx) :
    (Layout.blockN (⟨2, ![4096, 1024]⟩ : Shape) ⟨2, ![16384, 1024]⟩ (Layout.meshBlock [2, 4, 4] ![[1], []] c) v : S4096x1024.Idx → EReal) i
      = blockAt v ⟨yc c, Nat.mod_lt _ (by decide)⟩ i := by
  refine congrArg v (Eq.symm (Shape.reshapeEquiv_eq_of_rowMajor _ ?_))
  rw [Shape.rowMajor_val_two, Shape.rowMajor_val_three]
  have h : ∀ c : Dev nD, Layout.meshLin [2, 4, 4] c.val [1] = yc c := by decide
  show (Layout.meshLin [2, 4, 4] c.val [1] * 4096 + (i 0).val) * 1024 + (0 * 1024 + (i 1).val)
    = (yc c * 4096 + (i 0).val) * 1024 + (i 1).val
  rw [h]; omega

/-- The reference's result: the sum of the four blocks. -/
theorem reference_eq (v : Cert.ReferenceIdeal.S16384x1024.Idx → EReal) (i : S4096x1024.Idx) :
    (Host.reduceAdd (F := Ideal) (φ := .f32) (stack v) (constant Cert.ReferenceIdeal.S_ .f32 0x00000000#32)
        Cert.ReferenceIdeal.Gen.reducesTo_S4x4096x1024_S4096x1024_d0 Cert.ReferenceIdeal.Gen.h_S_ : S4096x1024.Idx → EReal) i
      = blockAt v 0 i + blockAt v 1 i + blockAt v 2 i + blockAt v 3 i := by
  show Ideal.hostReduceAdd _ (stack v) (Ideal.ofBits .f32 0x00000000#32) i = _
  rw [Ideal.ofBits_zero_f32, Ideal.hostReduceAdd_r3_a0, zero_add, Fin.sum_univ_four]
  rfl

theorem rows_of (r : ℕ) : yc (lastMid r) = 1 + r / 256 % 2 := by
  have h (x y z : ℕ) (hy : y < 4) (hz : z < 4) : (16 * x + 4 * y + z) / 4 % 4 = y := by omega
  have h2 : (1 + r / 256 % 2) % 4 = 1 + r / 256 % 2 := Nat.mod_eq_of_lt (by omega)
  exact (h _ _ _ (Nat.mod_lt _ (by decide)) (Nat.mod_lt _ (by decide))).trans h2
theorem y_pair : ∀ c : Dev nD, yc (ypair c) = yc c + 1 - 2 * (yc c % 2) := by decide
theorem y_mir : ∀ c : Dev nD, yc (ymir c) = 3 - yc c := by decide

/-- The kernel's result is the reference's. -/
theorem total_eq (v : Cert.ReferenceIdeal.S16384x1024.Idx → EReal) (X : Dev nD → S4096x1024.Idx → EReal)
    (hX : ∀ c i, X c i = blockAt v ⟨yc c, Nat.mod_lt _ (by decide)⟩ i) (i : S4096x1024.Idx) :
    (total (F := Ideal) X i : EReal) = blockAt v 0 i + blockAt v 1 i + blockAt v 2 i + blockAt v 3 i := by
  have hf : ∀ (c : Dev nD) (y : Fin 4), yc c = y.val → X c i = blockAt v y i := fun c y h => by
    rw [hX]; exact congrArg (blockAt v · i) (Fin.ext h)
  show (X (lastMid (i 0).val) i + X (ypair (lastMid (i 0).val)) i)
    + (X (ymir (lastMid (i 0).val)) i + X (ypair (ymir (lastMid (i 0).val))) i) = _
  have h := rows_of (i 0).val
  have hp := y_pair (lastMid (i 0).val)
  have hm := y_mir (lastMid (i 0).val)
  have hq := y_pair (ymir (lastMid (i 0).val))
  rcases Nat.mod_two_eq_zero_or_one ((i 0).val / 256) with h2 | h2 <;> rw [h2] at h <;> rw [h] at hp hm <;> rw [hm] at hq
  · rw [hf _ 1 h, hf _ 0 hp, hf _ 2 hm, hf _ 3 hq, add_comm (blockAt v 1 i), ← add_assoc]
  · rw [hf _ 2 h, hf _ 3 hp, hf _ 1 hm, hf _ 0 hq, add_comm (blockAt v 1 i), add_comm, ← add_assoc]

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem Cert.AllReduce

/-- The kernel's runs over any float values end with the argument unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (final_x m ρ c), h.2⟩) (run_main (F := F) m ρ)

/-- The two printings of the kernel have the same text: its body, its body table, the program's body table. -/
theorem same_body : @Cert.Kernel.cc0_body Bits _ _ = @Cert.KernelIdeal.cc0_body Bits _ _ := rfl
theorem same_table : Cert.Kernel.defs₀ (F := Bits) = Cert.KernelIdeal.defs₀ (F := Bits) :=
  congrArg Defs.onTc (funext fun l => match l with
    | 0 => funext fun x => by obtain ⟨t, s⟩ := x; rfl
    | ⟨_ + 1, h⟩ => absurd h (Nat.not_lt.2 (Nat.le_add_left _ _)))
theorem same_defs : Cert.Kernel.defs (F := Bits) = Cert.KernelIdeal.defs (F := Bits) :=
  congrArg (Pipeline.defs _) same_table

theorem frame_kernel : Cert.quiescent_Kernel := fun m ρ _ => by
  rw [same_defs]
  exact frame_any (F := Bits) m ρ
theorem frame_kernelIdeal : Cert.quiescent_KernelIdeal := fun m ρ _ => frame_any (F := Ideal) m ρ
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel ends with the reference's result. -/
theorem same_result : Cert.algebraic_KernelIdeal_ReferenceIdeal := fun m g m' g' _ hm => by
  let v : Cert.ReferenceIdeal.S16384x1024.Idx → EReal :=
    m' (((0 : Dev Cert.ReferenceIdeal.nD).tc : Thread Cert.ReferenceIdeal.nD Cert.ReferenceIdeal.τ).loc Cert.ReferenceIdeal.main_arg0)
  have hX : ∀ c i, xstg m g c i = blockAt v ⟨yc c, Nat.mod_lt _ (by decide)⟩ i := fun c i => by
    rw [xstg_eq, hm c]; exact held v c i
  have hv : (total (F := Ideal) (xstg m g) : Cert.KernelIdeal.S4096x1024.Idx → EReal)
      = Host.reduceAdd (F := Ideal) (φ := .f32) (stack v) (constant Cert.ReferenceIdeal.S_ .f32 0x00000000#32)
        Cert.ReferenceIdeal.Gen.reducesTo_S4x4096x1024_S4096x1024_d0 Cert.ReferenceIdeal.Gen.h_S_ :=
    funext fun i => (total_eq v _ hX i).trans (reference_eq v i).symm
  exact ⟨_, (θ_run Cert.KernelIdeal.defs _ _).mono
      (fun r h c => ⟨((h.1 c (1 : Fin 2)).trans (final_o m g c)).trans hv, (h.1 c (0 : Fin 2)).trans (final_x m g c)⟩)
      (run_main (F := Ideal) m g),
    (θ_run Cert.ReferenceIdeal.defs _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, same_result⟩

end Cert.Proof

end
